-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![1, 1, 1, 256, 256]⟩ ⟨5, ![2, 4, 4, 256, 256]⟩ (Layout.meshBlock [2, 4, 4] ![[0], [1], [2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1x256x256 : Shape := ⟨5, ![1, 1, 1, 256, 256]⟩
abbrev S256x256 : Shape := ⟨2, ![256, 256]⟩
abbrev S4x4x64x256 : Shape := ⟨4, ![4, 4, 64, 256]⟩
abbrev S4x2 : Shape := ⟨2, ![4, 2]⟩
abbrev S4x3 : Shape := ⟨2, ![4, 3]⟩
abbrev S4x4 : Shape := ⟨2, ![4, 4]⟩
abbrev S_ : Shape := ⟨0, ![]⟩
abbrev S1x1 : Shape := ⟨2, ![1, 1]⟩
abbrev S64x256 : Shape := ⟨2, ![64, 256]⟩
abbrev S1x3 : Shape := ⟨2, ![1, 3]⟩
abbrev S3 : Shape := ⟨1, ![3]⟩
abbrev S1 : Shape := ⟨1, ![1]⟩
abbrev S1x4 : Shape := ⟨2, ![1, 4]⟩
abbrev S4 : Shape := ⟨1, ![4]⟩
abbrev S1x4x64x256 : Shape := ⟨4, ![1, 4, 64, 256]⟩
abbrev S4x64x256 : Shape := ⟨3, ![4, 64, 256]⟩
abbrev S1x64x256 : Shape := ⟨3, ![1, 64, 256]⟩
abbrev S1x1x64x256 : Shape := ⟨4, ![1, 1, 64, 256]⟩

abbrev nBuf : Space → Nat
  | .hbm => 2
  | .vmem => 8
  | .smem => 0
  | _ => 0

abbrev bufTy : (tb : Table) → Fin (tcTables nBuf tb) → BufTy
  | .hbm, ⟨0, _⟩ => ⟨S1x1x1x256x256, .bf16⟩
  | .hbm, ⟨1, _⟩ => ⟨S256x256, .f32⟩
  | .local _ .vmem, ⟨0, _⟩ => ⟨S1x1x1x256x256, .bf16⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S4x4x64x256, .bf16⟩
  | .local _ .vmem, ⟨7, _⟩ => ⟨S4x4x64x256, .bf16⟩
  | _, _ => ⟨S1x1x1x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_15 : BitVec 32 := 16#32
  let v23 : BitVec 32 := Scalar.muli v9 c16_i32_15
  let v24 : BitVec 32 := Scalar.addi c0_i32 v23
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_16 : BitVec 32 := 4#32
  let v25 : BitVec 32 := Scalar.muli v5 c4_i32_16
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v27 : BitVec 32 := Scalar.muli v8 c1_i32_17
  let v28 : BitVec 32 := Scalar.addi v26 v27
  v28.toNat
def k0_dev2 (d0 : Dev nD) : Nat :=
  let c0_i32_20 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_19 : BitVec 32 := 16#32
  let v29 : BitVec 32 := Scalar.muli v2 c16_i32_19
  let v30 : BitVec 32 := Scalar.addi c0_i32_20 v29
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c3_i32 : BitVec 32 := 3#32
  let v11 : BitVec 32 := Scalar.andi v10 c3_i32
  let c4_i32_21 : BitVec 32 := 4#32
  let v31 : BitVec 32 := Scalar.muli v11 c4_i32_21
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v33 : BitVec 32 := Scalar.muli v8 c1_i32_22
  let v34 : BitVec 32 := Scalar.addi v32 v33
  v34.toNat
def k0_dev3 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v35 : BitVec 32 := Scalar.muli v2 c16_i32_24
  let v36 : BitVec 32 := Scalar.addi c0_i32_25 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4 : BitVec 32 := 2#32
  let v12 : BitVec 32 := Scalar.addi v5 c2_i32_4
  let c3_i32_5 : BitVec 32 := 3#32
  let v13 : BitVec 32 := Scalar.andi v12 c3_i32_5
  let c4_i32_26 : BitVec 32 := 4#32
  let v37 : BitVec 32 := Scalar.muli v13 c4_i32_26
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v39 : BitVec 32 := Scalar.muli v8 c1_i32_27
  let v40 : BitVec 32 := Scalar.addi v38 v39
  v40.toNat
def k0_dev4 (d0 : Dev nD) : Nat :=
  let c0_i32_30 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_29 : BitVec 32 := 16#32
  let v41 : BitVec 32 := Scalar.muli v2 c16_i32_29
  let v42 : BitVec 32 := Scalar.addi c0_i32_30 v41
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_6 : BitVec 32 := 3#32
  let v14 : BitVec 32 := Scalar.addi v5 c3_i32_6
  let c3_i32_7 : BitVec 32 := 3#32
  let v15 : BitVec 32 := Scalar.andi v14 c3_i32_7
  let c4_i32_31 : BitVec 32 := 4#32
  let v43 : BitVec 32 := Scalar.muli v15 c4_i32_31
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v45 : BitVec 32 := Scalar.muli v8 c1_i32_32
  let v46 : BitVec 32 := Scalar.addi v44 v45
  v46.toNat
def k0_dev5 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v47 : BitVec 32 := Scalar.muli v2 c16_i32_34
  let v48 : BitVec 32 := Scalar.addi c0_i32_35 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_36 : BitVec 32 := 4#32
  let v49 : BitVec 32 := Scalar.muli v5 c4_i32_36
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v16 : BitVec 32 := Scalar.addi v8 c1_i32_8
  let c3_i32_9 : BitVec 32 := 3#32
  let v17 : BitVec 32 := Scalar.andi v16 c3_i32_9
  let c1_i32_37 : BitVec 32 := 1#32
  let v51 : BitVec 32 := Scalar.muli v17 c1_i32_37
  let v52 : BitVec 32 := Scalar.addi v50 v51
  v52.toNat
def k0_dev6 (d0 : Dev nD) : Nat :=
  let c0_i32_40 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_39 : BitVec 32 := 16#32
  let v53 : BitVec 32 := Scalar.muli v2 c16_i32_39
  let v54 : BitVec 32 := Scalar.addi c0_i32_40 v53
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_41 : BitVec 32 := 4#32
  let v55 : BitVec 32 := Scalar.muli v5 c4_i32_41
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let v18 : BitVec 32 := Scalar.addi v8 c2_i32_10
  let c3_i32_11 : BitVec 32 := 3#32
  let v19 : BitVec 32 := Scalar.andi v18 c3_i32_11
  let c1_i32_42 : BitVec 32 := 1#32
  let v57 : BitVec 32 := Scalar.muli v19 c1_i32_42
  let v58 : BitVec 32 := Scalar.addi v56 v57
  v58.toNat
def k0_dev7 (d0 : Dev nD) : Nat :=
  let c0_i32_45 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_44 : BitVec 32 := 16#32
  let v59 : BitVec 32 := Scalar.muli v2 c16_i32_44
  let v60 : BitVec 32 := Scalar.addi c0_i32_45 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_46 : BitVec 32 := 4#32
  let v61 : BitVec 32 := Scalar.muli v5 c4_i32_46
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_12 : BitVec 32 := 3#32
  let v20 : BitVec 32 := Scalar.addi v8 c3_i32_12
  let c3_i32_13 : BitVec 32 := 3#32
  let v21 : BitVec 32 := Scalar.andi v20 c3_i32_13
  let c1_i32_47 : BitVec 32 := 1#32
  let v63 : BitVec 32 := Scalar.muli v21 c1_i32_47
  let v64 : BitVec 32 := Scalar.addi v62 v63
  v64.toNat
def k0_dev8 (d0 : Dev nD) : Nat :=
  let c0_i32_59 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_58 : BitVec 32 := 16#32
  let v71 : BitVec 32 := Scalar.muli v9 c16_i32_58
  let v72 : BitVec 32 := Scalar.addi c0_i32_59 v71
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_60 : BitVec 32 := 4#32
  let v73 : BitVec 32 := Scalar.muli v5 c4_i32_60
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v75 : BitVec 32 := Scalar.muli v8 c1_i32_61
  let v76 : BitVec 32 := Scalar.addi v74 v75
  v76.toNat
def k0_dev9 (d0 : Dev nD) : Nat :=
  let c0_i32_71 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_70 : BitVec 32 := 16#32
  let v83 : BitVec 32 := Scalar.muli v9 c16_i32_70
  let v84 : BitVec 32 := Scalar.addi c0_i32_71 v83
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_72 : BitVec 32 := 4#32
  let v85 : BitVec 32 := Scalar.muli v5 c4_i32_72
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v87 : BitVec 32 := Scalar.muli v8 c1_i32_73
  let v88 : BitVec 32 := Scalar.addi v86 v87
  v88.toNat
def k0_dev10 (d0 : Dev nD) : Nat :=
  let c0_i32_82 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_81 : BitVec 32 := 16#32
  let v95 : BitVec 32 := Scalar.muli v9 c16_i32_81
  let v96 : BitVec 32 := Scalar.addi c0_i32_82 v95
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_83 : BitVec 32 := 4#32
  let v97 : BitVec 32 := Scalar.muli v5 c4_i32_83
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v99 : BitVec 32 := Scalar.muli v8 c1_i32_84
  let v100 : BitVec 32 := Scalar.addi v98 v99
  v100.toNat
def k0_dev11 (d0 : Dev nD) : Nat :=
  let c0_i32_93 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_92 : BitVec 32 := 16#32
  let v107 : BitVec 32 := Scalar.muli v9 c16_i32_92
  let v108 : BitVec 32 := Scalar.addi c0_i32_93 v107
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_94 : BitVec 32 := 4#32
  let v109 : BitVec 32 := Scalar.muli v5 c4_i32_94
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v111 : BitVec 32 := Scalar.muli v8 c1_i32_95
  let v112 : BitVec 32 := Scalar.addi v110 v111
  v112.toNat
def k0_dev12 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v137 : BitVec 32 := Scalar.muli v2 c16_i32_125
  let v138 : BitVec 32 := Scalar.addi c0_i32_126 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_117 : BitVec 32 := 1#32
  let v135 : BitVec 32 := Scalar.addi v5 c1_i32_117
  let c3_i32_118 : BitVec 32 := 3#32
  let v136 : BitVec 32 := Scalar.andi v135 c3_i32_118
  let c4_i32_127 : BitVec 32 := 4#32
  let v139 : BitVec 32 := Scalar.muli v136 c4_i32_127
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v141 : BitVec 32 := Scalar.muli v8 c1_i32_128
  let v142 : BitVec 32 := Scalar.addi v140 v141
  v142.toNat
def k0_dev13 (d0 : Dev nD) : Nat :=
  let c0_i32_147 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_146 : BitVec 32 := 16#32
  let v158 : BitVec 32 := Scalar.muli v2 c16_i32_146
  let v159 : BitVec 32 := Scalar.addi c0_i32_147 v158
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_138 : BitVec 32 := 2#32
  let v156 : BitVec 32 := Scalar.addi v5 c2_i32_138
  let c3_i32_139 : BitVec 32 := 3#32
  let v157 : BitVec 32 := Scalar.andi v156 c3_i32_139
  let c4_i32_148 : BitVec 32 := 4#32
  let v160 : BitVec 32 := Scalar.muli v157 c4_i32_148
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v162 : BitVec 32 := Scalar.muli v8 c1_i32_149
  let v163 : BitVec 32 := Scalar.addi v161 v162
  v163.toNat
def k0_dev14 (d0 : Dev nD) : Nat :=
  let c0_i32_168 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_167 : BitVec 32 := 16#32
  let v179 : BitVec 32 := Scalar.muli v2 c16_i32_167
  let v180 : BitVec 32 := Scalar.addi c0_i32_168 v179
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_159 : BitVec 32 := 3#32
  let v177 : BitVec 32 := Scalar.addi v5 c3_i32_159
  let c3_i32_160 : BitVec 32 := 3#32
  let v178 : BitVec 32 := Scalar.andi v177 c3_i32_160
  let c4_i32_169 : BitVec 32 := 4#32
  let v181 : BitVec 32 := Scalar.muli v178 c4_i32_169
  let v182 : BitVec 32 := Scalar.addi v180 v181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v183 : BitVec 32 := Scalar.muli v8 c1_i32_170
  let v184 : BitVec 32 := Scalar.addi v182 v183
  v184.toNat
def k0_dev15 (d0 : Dev nD) : Nat :=
  let c0_i32_206 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_205 : BitVec 32 := 16#32
  let v216 : BitVec 32 := Scalar.muli v2 c16_i32_205
  let v217 : BitVec 32 := Scalar.addi c0_i32_206 v216
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_207 : BitVec 32 := 4#32
  let v218 : BitVec 32 := Scalar.muli v5 c4_i32_207
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v214 : BitVec 32 := Scalar.addi v8 c1_i32_197
  let c3_i32_198 : BitVec 32 := 3#32
  let v215 : BitVec 32 := Scalar.andi v214 c3_i32_198
  let c1_i32_208 : BitVec 32 := 1#32
  let v220 : BitVec 32 := Scalar.muli v215 c1_i32_208
  let v221 : BitVec 32 := Scalar.addi v219 v220
  v221.toNat
def k0_dev16 (d0 : Dev nD) : Nat :=
  let c0_i32_227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_226 : BitVec 32 := 16#32
  let v237 : BitVec 32 := Scalar.muli v2 c16_i32_226
  let v238 : BitVec 32 := Scalar.addi c0_i32_227 v237
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_228 : BitVec 32 := 4#32
  let v239 : BitVec 32 := Scalar.muli v5 c4_i32_228
  let v240 : BitVec 32 := Scalar.addi v238 v239
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_218 : BitVec 32 := 2#32
  let v235 : BitVec 32 := Scalar.addi v8 c2_i32_218
  let c3_i32_219 : BitVec 32 := 3#32
  let v236 : BitVec 32 := Scalar.andi v235 c3_i32_219
  let c1_i32_229 : BitVec 32 := 1#32
  let v241 : BitVec 32 := Scalar.muli v236 c1_i32_229
  let v242 : BitVec 32 := Scalar.addi v240 v241
  v242.toNat
def k0_dev17 (d0 : Dev nD) : Nat :=
  let c0_i32_248 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_247 : BitVec 32 := 16#32
  let v258 : BitVec 32 := Scalar.muli v2 c16_i32_247
  let v259 : BitVec 32 := Scalar.addi c0_i32_248 v258
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_249 : BitVec 32 := 4#32
  let v260 : BitVec 32 := Scalar.muli v5 c4_i32_249
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_239 : BitVec 32 := 3#32
  let v256 : BitVec 32 := Scalar.addi v8 c3_i32_239
  let c3_i32_240 : BitVec 32 := 3#32
  let v257 : BitVec 32 := Scalar.andi v256 c3_i32_240
  let c1_i32_250 : BitVec 32 := 1#32
  let v262 : BitVec 32 := Scalar.muli v257 c1_i32_250
  let v263 : BitVec 32 := Scalar.addi v261 v262
  v263.toNat
def k0_dev18 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v295 : BitVec 32 := Scalar.muli v2 c16_i32_285
  let v296 : BitVec 32 := Scalar.addi c0_i32_286 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_277 : BitVec 32 := 1#32
  let v293 : BitVec 32 := Scalar.addi v5 c1_i32_277
  let c3_i32_278 : BitVec 32 := 3#32
  let v294 : BitVec 32 := Scalar.andi v293 c3_i32_278
  let c4_i32_287 : BitVec 32 := 4#32
  let v297 : BitVec 32 := Scalar.muli v294 c4_i32_287
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v299 : BitVec 32 := Scalar.muli v8 c1_i32_288
  let v300 : BitVec 32 := Scalar.addi v298 v299
  v300.toNat
def k0_dev19 (d0 : Dev nD) : Nat :=
  let c0_i32_307 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_306 : BitVec 32 := 16#32
  let v316 : BitVec 32 := Scalar.muli v2 c16_i32_306
  let v317 : BitVec 32 := Scalar.addi c0_i32_307 v316
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_298 : BitVec 32 := 2#32
  let v314 : BitVec 32 := Scalar.addi v5 c2_i32_298
  let c3_i32_299 : BitVec 32 := 3#32
  let v315 : BitVec 32 := Scalar.andi v314 c3_i32_299
  let c4_i32_308 : BitVec 32 := 4#32
  let v318 : BitVec 32 := Scalar.muli v315 c4_i32_308
  let v319 : BitVec 32 := Scalar.addi v317 v318
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_309 : BitVec 32 := 1#32
  let v320 : BitVec 32 := Scalar.muli v8 c1_i32_309
  let v321 : BitVec 32 := Scalar.addi v319 v320
  v321.toNat
def k0_dev20 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v337 : BitVec 32 := Scalar.muli v2 c16_i32_327
  let v338 : BitVec 32 := Scalar.addi c0_i32_328 v337
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_319 : BitVec 32 := 3#32
  let v335 : BitVec 32 := Scalar.addi v5 c3_i32_319
  let c3_i32_320 : BitVec 32 := 3#32
  let v336 : BitVec 32 := Scalar.andi v335 c3_i32_320
  let c4_i32_329 : BitVec 32 := 4#32
  let v339 : BitVec 32 := Scalar.muli v336 c4_i32_329
  let v340 : BitVec 32 := Scalar.addi v338 v339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v341 : BitVec 32 := Scalar.muli v8 c1_i32_330
  let v342 : BitVec 32 := Scalar.addi v340 v341
  v342.toNat
def k0_dev21 (d0 : Dev nD) : Nat :=
  let c0_i32_366 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_365 : BitVec 32 := 16#32
  let v374 : BitVec 32 := Scalar.muli v2 c16_i32_365
  let v375 : BitVec 32 := Scalar.addi c0_i32_366 v374
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_367 : BitVec 32 := 4#32
  let v376 : BitVec 32 := Scalar.muli v5 c4_i32_367
  let v377 : BitVec 32 := Scalar.addi v375 v376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_357 : BitVec 32 := 1#32
  let v372 : BitVec 32 := Scalar.addi v8 c1_i32_357
  let c3_i32_358 : BitVec 32 := 3#32
  let v373 : BitVec 32 := Scalar.andi v372 c3_i32_358
  let c1_i32_368 : BitVec 32 := 1#32
  let v378 : BitVec 32 := Scalar.muli v373 c1_i32_368
  let v379 : BitVec 32 := Scalar.addi v377 v378
  v379.toNat
def k0_dev22 (d0 : Dev nD) : Nat :=
  let c0_i32_387 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_386 : BitVec 32 := 16#32
  let v395 : BitVec 32 := Scalar.muli v2 c16_i32_386
  let v396 : BitVec 32 := Scalar.addi c0_i32_387 v395
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_388 : BitVec 32 := 4#32
  let v397 : BitVec 32 := Scalar.muli v5 c4_i32_388
  let v398 : BitVec 32 := Scalar.addi v396 v397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_378 : BitVec 32 := 2#32
  let v393 : BitVec 32 := Scalar.addi v8 c2_i32_378
  let c3_i32_379 : BitVec 32 := 3#32
  let v394 : BitVec 32 := Scalar.andi v393 c3_i32_379
  let c1_i32_389 : BitVec 32 := 1#32
  let v399 : BitVec 32 := Scalar.muli v394 c1_i32_389
  let v400 : BitVec 32 := Scalar.addi v398 v399
  v400.toNat
def k0_dev23 (d0 : Dev nD) : Nat :=
  let c0_i32_408 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_407 : BitVec 32 := 16#32
  let v416 : BitVec 32 := Scalar.muli v2 c16_i32_407
  let v417 : BitVec 32 := Scalar.addi c0_i32_408 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_409 : BitVec 32 := 4#32
  let v418 : BitVec 32 := Scalar.muli v5 c4_i32_409
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_399 : BitVec 32 := 3#32
  let v414 : BitVec 32 := Scalar.addi v8 c3_i32_399
  let c3_i32_400 : BitVec 32 := 3#32
  let v415 : BitVec 32 := Scalar.andi v414 c3_i32_400
  let c1_i32_410 : BitVec 32 := 1#32
  let v420 : BitVec 32 := Scalar.muli v415 c1_i32_410
  let v421 : BitVec 32 := Scalar.addi v419 v420
  v421.toNat
def k0_dev24 (d0 : Dev nD) : Nat :=
  let c0_i32_511 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_510 : BitVec 32 := 16#32
  let v504 : BitVec 32 := Scalar.muli v2 c16_i32_510
  let v505 : BitVec 32 := Scalar.addi c0_i32_511 v504
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_512 : BitVec 32 := 4#32
  let v506 : BitVec 32 := Scalar.muli v5 c4_i32_512
  let v507 : BitVec 32 := Scalar.addi v505 v506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_502 : BitVec 32 := 1#32
  let v502 : BitVec 32 := Scalar.addi v8 c1_i32_502
  let c3_i32_503 : BitVec 32 := 3#32
  let v503 : BitVec 32 := Scalar.andi v502 c3_i32_503
  let c1_i32_513 : BitVec 32 := 1#32
  let v508 : BitVec 32 := Scalar.muli v503 c1_i32_513
  let v509 : BitVec 32 := Scalar.addi v507 v508
  v509.toNat
def k0_dev25 (d0 : Dev nD) : Nat :=
  let c0_i32_532 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_531 : BitVec 32 := 16#32
  let v525 : BitVec 32 := Scalar.muli v2 c16_i32_531
  let v526 : BitVec 32 := Scalar.addi c0_i32_532 v525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_533 : BitVec 32 := 4#32
  let v527 : BitVec 32 := Scalar.muli v5 c4_i32_533
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_523 : BitVec 32 := 2#32
  let v523 : BitVec 32 := Scalar.addi v8 c2_i32_523
  let c3_i32_524 : BitVec 32 := 3#32
  let v524 : BitVec 32 := Scalar.andi v523 c3_i32_524
  let c1_i32_534 : BitVec 32 := 1#32
  let v529 : BitVec 32 := Scalar.muli v524 c1_i32_534
  let v530 : BitVec 32 := Scalar.addi v528 v529
  v530.toNat
def k0_dev26 (d0 : Dev nD) : Nat :=
  let c0_i32_553 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_552 : BitVec 32 := 16#32
  let v546 : BitVec 32 := Scalar.muli v2 c16_i32_552
  let v547 : BitVec 32 := Scalar.addi c0_i32_553 v546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_554 : BitVec 32 := 4#32
  let v548 : BitVec 32 := Scalar.muli v5 c4_i32_554
  let v549 : BitVec 32 := Scalar.addi v547 v548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_544 : BitVec 32 := 3#32
  let v544 : BitVec 32 := Scalar.addi v8 c3_i32_544
  let c3_i32_545 : BitVec 32 := 3#32
  let v545 : BitVec 32 := Scalar.andi v544 c3_i32_545
  let c1_i32_555 : BitVec 32 := 1#32
  let v550 : BitVec 32 := Scalar.muli v545 c1_i32_555
  let v551 : BitVec 32 := Scalar.addi v549 v550
  v551.toNat
def k0_dev27 (d0 : Dev nD) : Nat :=
  let c0_i32_659 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_658 : BitVec 32 := 16#32
  let v634 : BitVec 32 := Scalar.muli v2 c16_i32_658
  let v635 : BitVec 32 := Scalar.addi c0_i32_659 v634
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_650 : BitVec 32 := 1#32
  let v632 : BitVec 32 := Scalar.addi v5 c1_i32_650
  let c3_i32_651 : BitVec 32 := 3#32
  let v633 : BitVec 32 := Scalar.andi v632 c3_i32_651
  let c4_i32_660 : BitVec 32 := 4#32
  let v636 : BitVec 32 := Scalar.muli v633 c4_i32_660
  let v637 : BitVec 32 := Scalar.addi v635 v636
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_661 : BitVec 32 := 1#32
  let v638 : BitVec 32 := Scalar.muli v8 c1_i32_661
  let v639 : BitVec 32 := Scalar.addi v637 v638
  v639.toNat
def k0_dev28 (d0 : Dev nD) : Nat :=
  let c0_i32_680 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_679 : BitVec 32 := 16#32
  let v655 : BitVec 32 := Scalar.muli v2 c16_i32_679
  let v656 : BitVec 32 := Scalar.addi c0_i32_680 v655
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_671 : BitVec 32 := 2#32
  let v653 : BitVec 32 := Scalar.addi v5 c2_i32_671
  let c3_i32_672 : BitVec 32 := 3#32
  let v654 : BitVec 32 := Scalar.andi v653 c3_i32_672
  let c4_i32_681 : BitVec 32 := 4#32
  let v657 : BitVec 32 := Scalar.muli v654 c4_i32_681
  let v658 : BitVec 32 := Scalar.addi v656 v657
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_682 : BitVec 32 := 1#32
  let v659 : BitVec 32 := Scalar.muli v8 c1_i32_682
  let v660 : BitVec 32 := Scalar.addi v658 v659
  v660.toNat
def k0_dev29 (d0 : Dev nD) : Nat :=
  let c0_i32_701 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_700 : BitVec 32 := 16#32
  let v676 : BitVec 32 := Scalar.muli v2 c16_i32_700
  let v677 : BitVec 32 := Scalar.addi c0_i32_701 v676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_692 : BitVec 32 := 3#32
  let v674 : BitVec 32 := Scalar.addi v5 c3_i32_692
  let c3_i32_693 : BitVec 32 := 3#32
  let v675 : BitVec 32 := Scalar.andi v674 c3_i32_693
  let c4_i32_702 : BitVec 32 := 4#32
  let v678 : BitVec 32 := Scalar.muli v675 c4_i32_702
  let v679 : BitVec 32 := Scalar.addi v677 v678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_703 : BitVec 32 := 1#32
  let v680 : BitVec 32 := Scalar.muli v8 c1_i32_703
  let v681 : BitVec 32 := Scalar.addi v679 v680
  v681.toNat
def k0_dev30 (d0 : Dev nD) : Nat :=
  let c0_i32_807 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_806 : BitVec 32 := 16#32
  let v764 : BitVec 32 := Scalar.muli v2 c16_i32_806
  let v765 : BitVec 32 := Scalar.addi c0_i32_807 v764
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_808 : BitVec 32 := 4#32
  let v766 : BitVec 32 := Scalar.muli v5 c4_i32_808
  let v767 : BitVec 32 := Scalar.addi v765 v766
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_798 : BitVec 32 := 1#32
  let v762 : BitVec 32 := Scalar.addi v8 c1_i32_798
  let c3_i32_799 : BitVec 32 := 3#32
  let v763 : BitVec 32 := Scalar.andi v762 c3_i32_799
  let c1_i32_809 : BitVec 32 := 1#32
  let v768 : BitVec 32 := Scalar.muli v763 c1_i32_809
  let v769 : BitVec 32 := Scalar.addi v767 v768
  v769.toNat
def k0_dev31 (d0 : Dev nD) : Nat :=
  let c0_i32_828 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_827 : BitVec 32 := 16#32
  let v785 : BitVec 32 := Scalar.muli v2 c16_i32_827
  let v786 : BitVec 32 := Scalar.addi c0_i32_828 v785
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_829 : BitVec 32 := 4#32
  let v787 : BitVec 32 := Scalar.muli v5 c4_i32_829
  let v788 : BitVec 32 := Scalar.addi v786 v787
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_819 : BitVec 32 := 2#32
  let v783 : BitVec 32 := Scalar.addi v8 c2_i32_819
  let c3_i32_820 : BitVec 32 := 3#32
  let v784 : BitVec 32 := Scalar.andi v783 c3_i32_820
  let c1_i32_830 : BitVec 32 := 1#32
  let v789 : BitVec 32 := Scalar.muli v784 c1_i32_830
  let v790 : BitVec 32 := Scalar.addi v788 v789
  v790.toNat
def k0_dev32 (d0 : Dev nD) : Nat :=
  let c0_i32_849 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_848 : BitVec 32 := 16#32
  let v806 : BitVec 32 := Scalar.muli v2 c16_i32_848
  let v807 : BitVec 32 := Scalar.addi c0_i32_849 v806
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_850 : BitVec 32 := 4#32
  let v808 : BitVec 32 := Scalar.muli v5 c4_i32_850
  let v809 : BitVec 32 := Scalar.addi v807 v808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_840 : BitVec 32 := 3#32
  let v804 : BitVec 32 := Scalar.addi v8 c3_i32_840
  let c3_i32_841 : BitVec 32 := 3#32
  let v805 : BitVec 32 := Scalar.andi v804 c3_i32_841
  let c1_i32_851 : BitVec 32 := 1#32
  let v810 : BitVec 32 := Scalar.muli v805 c1_i32_851
  let v811 : BitVec 32 := Scalar.addi v809 v810
  v811.toNat
def k0_dev33 (d0 : Dev nD) : Nat :=
  let c0_i32_955 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_954 : BitVec 32 := 16#32
  let v894 : BitVec 32 := Scalar.muli v2 c16_i32_954
  let v895 : BitVec 32 := Scalar.addi c0_i32_955 v894
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_946 : BitVec 32 := 1#32
  let v892 : BitVec 32 := Scalar.addi v5 c1_i32_946
  let c3_i32_947 : BitVec 32 := 3#32
  let v893 : BitVec 32 := Scalar.andi v892 c3_i32_947
  let c4_i32_956 : BitVec 32 := 4#32
  let v896 : BitVec 32 := Scalar.muli v893 c4_i32_956
  let v897 : BitVec 32 := Scalar.addi v895 v896
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_957 : BitVec 32 := 1#32
  let v898 : BitVec 32 := Scalar.muli v8 c1_i32_957
  let v899 : BitVec 32 := Scalar.addi v897 v898
  v899.toNat
def k0_dev34 (d0 : Dev nD) : Nat :=
  let c0_i32_976 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_975 : BitVec 32 := 16#32
  let v915 : BitVec 32 := Scalar.muli v2 c16_i32_975
  let v916 : BitVec 32 := Scalar.addi c0_i32_976 v915
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_967 : BitVec 32 := 2#32
  let v913 : BitVec 32 := Scalar.addi v5 c2_i32_967
  let c3_i32_968 : BitVec 32 := 3#32
  let v914 : BitVec 32 := Scalar.andi v913 c3_i32_968
  let c4_i32_977 : BitVec 32 := 4#32
  let v917 : BitVec 32 := Scalar.muli v914 c4_i32_977
  let v918 : BitVec 32 := Scalar.addi v916 v917
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v919 : BitVec 32 := Scalar.muli v8 c1_i32_978
  let v920 : BitVec 32 := Scalar.addi v918 v919
  v920.toNat
def k0_dev35 (d0 : Dev nD) : Nat :=
  let c0_i32_997 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_996 : BitVec 32 := 16#32
  let v936 : BitVec 32 := Scalar.muli v2 c16_i32_996
  let v937 : BitVec 32 := Scalar.addi c0_i32_997 v936
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_988 : BitVec 32 := 3#32
  let v934 : BitVec 32 := Scalar.addi v5 c3_i32_988
  let c3_i32_989 : BitVec 32 := 3#32
  let v935 : BitVec 32 := Scalar.andi v934 c3_i32_989
  let c4_i32_998 : BitVec 32 := 4#32
  let v938 : BitVec 32 := Scalar.muli v935 c4_i32_998
  let v939 : BitVec 32 := Scalar.addi v937 v938
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_999 : BitVec 32 := 1#32
  let v940 : BitVec 32 := Scalar.muli v8 c1_i32_999
  let v941 : BitVec 32 := Scalar.addi v939 v940
  v941.toNat
abbrev stage0_0 : Fin 1 → Memref sig .tc .vmem S1x1x1x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x4x4x256x256 : Shape := ⟨5, ![2, 4, 4, 256, 256]⟩
abbrev S_ : Shape := ⟨0, ![]⟩
abbrev S256x256 : Shape := ⟨2, ![256, 256]⟩

abbrev nBuf : Space → Nat
  | .hbm => 6
  | .vmem => 0
  | .smem => 0
  | _ => 0

abbrev bufTy : (tb : Table) → Fin (tcTables nBuf tb) → BufTy
  | .hbm, ⟨0, _⟩ => ⟨S2x4x4x256x256, .bf16⟩
  | .hbm, ⟨1, _⟩ => ⟨S2x4x4x256x256, .f32⟩
  | .hbm, ⟨2, _⟩ => ⟨S_, .f32⟩
  | .hbm, ⟨3, _⟩ => ⟨S256x256, .f32⟩
  | .hbm, ⟨4, _⟩ => ⟨S256x256, .bf16⟩
  | .hbm, ⟨5, _⟩ => ⟨S256x256, .f32⟩
  | _, _ => ⟨S2x4x4x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Grid.lean ====
/-
The mesh, the transfers and the semaphores of the 32-device all-reduce.

A device is `16 x + 4 y + z`. A transfer is named `(q, t)`: `q` the chunk of 64 rows it belongs to, `t` its place in
the chunk's life — `0` the exchange along x, `1, 2, 3` the first-stage sends at offsets 1, 2, 3, `4, 5, 6` the
second-stage sends at offsets 1, 2, 3. Chunks 0 and 1 take y first and z second, chunks 2 and 3 z first and y second.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.AllReduce

open Cert.KernelIdeal Cert.KernelIdeal.Gen
open Idealize.ShloMosaic
open Idealize.ShloMosaic.TcCoe

/-! ## Directions -/

set_option backward.proofsInPublic true in
/-- The partner of device `c` in direction `k`: `0` the other x, `1, 2, 3` y plus 1, 2, 3, `4, 5, 6` z plus 1, 2, 3. -/
def move (c : Dev nD) : Fin 7 → Dev nD
  | 0 => ⟨(c.val + 16) % 32, Nat.mod_lt _ (by decide)⟩
  | 1 => ⟨(c.val / 16 * 16 + (c.val + 4) % 16) % 32, Nat.mod_lt _ (by decide)⟩
  | 2 => ⟨(c.val / 16 * 16 + (c.val + 8) % 16) % 32, Nat.mod_lt _ (by decide)⟩
  | 3 => ⟨(c.val / 16 * 16 + (c.val + 12) % 16) % 32, Nat.mod_lt _ (by decide)⟩
  | 4 => ⟨(c.val / 4 * 4 + (c.val + 1) % 4) % 32, Nat.mod_lt _ (by decide)⟩
  | 5 => ⟨(c.val / 4 * 4 + (c.val + 2) % 4) % 32, Nat.mod_lt _ (by decide)⟩
  | 6 => ⟨(c.val / 4 * 4 + (c.val + 3) % 4) % 32, Nat.mod_lt _ (by decide)⟩

/-- The direction back. -/
def opp : Fin 7 → Fin 7
  | 0 => 0 | 1 => 3 | 2 => 2 | 3 => 1 | 4 => 6 | 5 => 5 | 6 => 4

theorem opp_opp (k : Fin 7) : opp (opp k) = k := by revert k; decide
theorem move_opp (c : Dev nD) (k : Fin 7) : move (move c k) (opp k) = c := by revert c k; decide +kernel
theorem opp_move (c : Dev nD) (k : Fin 7) : move (move c (opp k)) k = c := by revert c k; decide +kernel

/-- A direction permutes the devices. -/
def shift (k : Fin 7) : Dev nD ≃ Dev nD := ⟨(move · k), (move · (opp k)), (move_opp · k), (opp_move · k)⟩

/-! ## Transfers -/

/-- A transfer: its chunk and its place in the chunk's life. -/
abbrev X : Type := Fin 4 × Fin 7

/-- The direction a transfer goes. -/
def kind (x : X) : Fin 7 :=
  match x.2 with
  | 0 => 0
  | 1 => if x.1 < 2 then 1 else 4
  | 2 => if x.1 < 2 then 2 else 5
  | 3 => if x.1 < 2 then 3 else 6
  | 4 => if x.1 < 2 then 4 else 1
  | 5 => if x.1 < 2 then 5 else 2
  | 6 => if x.1 < 2 then 6 else 3

/-- The stage of a place: the exchange, the first stage, the second. -/
def stg (t : Fin 7) : Fin 3 :=
  match t with
  | 0 => 0 | 1 => 1 | 2 => 1 | 3 => 1 | 4 => 2 | 5 => 2 | 6 => 2

/-- Where `c`'s transfer `x` lands, and which device's transfer `x` lands at `c`. -/
def tgt (c : Dev nD) (x : X) : Dev nD := move c (kind x)
def sender (c : Dev nD) (x : X) : Dev nD := move c (opp (kind x))
theorem sender_tgt (c : Dev nD) (x : X) : sender (tgt c x) x = c := move_opp c (kind x)
theorem tgt_sender (c : Dev nD) (x : X) : tgt (sender c x) x = c := opp_move c (kind x)

set_option backward.proofsInPublic true in
/-- The device the kernel's arithmetic names for transfer `x`. -/
def named (c : Dev nD) (x : X) : Dev nD :=
  match x.1, x.2 with
  | 0, 0 => ⟨k0_dev8 c, k0_dev8_lt c⟩ | 2, 0 => ⟨k0_dev9 c, k0_dev9_lt c⟩ | 1, 0 => ⟨k0_dev10 c, k0_dev10_lt c⟩ | 3, 0 => ⟨k0_dev11 c, k0_dev11_lt c⟩
  | 0, 1 => ⟨k0_dev12 c, k0_dev12_lt c⟩ | 0, 2 => ⟨k0_dev13 c, k0_dev13_lt c⟩ | 0, 3 => ⟨k0_dev14 c, k0_dev14_lt c⟩
  | 2, 1 => ⟨k0_dev15 c, k0_dev15_lt c⟩ | 2, 2 => ⟨k0_dev16 c, k0_dev16_lt c⟩ | 2, 3 => ⟨k0_dev17 c, k0_dev17_lt c⟩
  | 1, 1 => ⟨k0_dev18 c, k0_dev18_lt c⟩ | 1, 2 => ⟨k0_dev19 c, k0_dev19_lt c⟩ | 1, 3 => ⟨k0_dev20 c, k0_dev20_lt c⟩
  | 3, 1 => ⟨k0_dev21 c, k0_dev21_lt c⟩ | 3, 2 => ⟨k0_dev22 c, k0_dev22_lt c⟩ | 3, 3 => ⟨k0_dev23 c, k0_dev23_lt c⟩
  | 0, 4 => ⟨k0_dev24 c, k0_dev24_lt c⟩ | 0, 5 => ⟨k0_dev25 c, k0_dev25_lt c⟩ | 0, 6 => ⟨k0_dev26 c, k0_dev26_lt c⟩
  | 2, 4 => ⟨k0_dev27 c, k0_dev27_lt c⟩ | 2, 5 => ⟨k0_dev28 c, k0_dev28_lt c⟩ | 2, 6 => ⟨k0_dev29 c, k0_dev29_lt c⟩
  | 1, 4 => ⟨k0_dev30 c, k0_dev30_lt c⟩ | 1, 5 => ⟨k0_dev31 c, k0_dev31_lt c⟩ | 1, 6 => ⟨k0_dev32 c, k0_dev32_lt c⟩
  | 3, 4 => ⟨k0_dev33 c, k0_dev33_lt c⟩ | 3, 5 => ⟨k0_dev34 c, k0_dev34_lt c⟩ | 3, 6 => ⟨k0_dev35 c, k0_dev35_lt c⟩

set_option backward.proofsInPublic true in
/-- The device the kernel's arithmetic names for its signal in direction `k`. -/
def signalled (c : Dev nD) : Fin 7 → Dev nD
  | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
  | 4 => ⟨k0_dev5 c, k0_dev5_lt c⟩ | 5 => ⟨k0_dev6 c, k0_dev6_lt c⟩ | 6 => ⟨k0_dev7 c, k0_dev7_lt c⟩

/-- The arithmetic names the partner in the transfer's direction. -/
theorem named_eq (c : Dev nD) (x : X) : named c x = tgt c x := by revert c x; decide +kernel
/-- The arithmetic names the partner in the signal's direction. -/
theorem signalled_eq (c : Dev nD) (k : Fin 7) : signalled c k = move c k := by revert c k; decide +kernel

/-! ## The buffers the transfers run between -/

/-- Chunk `q` of a 256-row buffer. -/
def rowOff : Fin 4 → ℕ
  | 0 => 0 | 1 => 64 | 2 => 128 | 3 => 192
theorem chunk_inb (q : Fin 4) : ∀ a, (![rowOff q, 0] : Fin 2 → Nat) a + S64x256.size a ≤ S256x256.size a := by revert q; decide
abbrev chunkR (q : Fin 4) : Rect S256x256 := Rect.unit (s := S256x256) ![rowOff q, 0] S64x256.size (chunk_inb q)
abbrev chunk {e : EltTy} (M : Memref sig .tc .vmem S256x256 e) (q : Fin 4) : Memref sig .tc .vmem S64x256 e := M.slice (chunkR q) (fun _ => rfl)

/-- Slot `s` of chunk `q` of a landing buffer. -/
theorem slot_inb (q s : Fin 4) : ∀ a, (![q.val, s.val, 0, 0] : Fin 4 → Nat) a + S1x1x64x256.size a ≤ S4x4x64x256.size a := by revert q s; decide
abbrev slotR (q s : Fin 4) : Rect S4x4x64x256 := Rect.unit (s := S4x4x64x256) ![q.val, s.val, 0, 0] S1x1x64x256.size (slot_inb q s)
abbrev slot (M : Memref sig .tc .vmem S4x4x64x256 .bf16) (q s : Fin 4) : Memref sig .tc .vmem S64x256 .bf16 :=
  (M.slice (slotR q s) (fun _ => rfl)).squeeze S64x256 squeezes_S1x1x64x256_S64x256

abbrev xM : Memref sig .tc .vmem S1x1x1x256x256 .bf16 := Memref.whole cc0_stg0_0
abbrev oM : Memref sig .tc .vmem S256x256 .f32 := Memref.whole cc0_stg1_0
abbrev a0 : Memref sig .tc .vmem S256x256 .bf16 := Memref.whole cc0_scratch0
abbrev a1 : Memref sig .tc .vmem S256x256 .bf16 := Memref.whole cc0_scratch1
abbrev a2 : Memref sig .tc .vmem S256x256 .bf16 := Memref.whole cc0_scratch2
abbrev rx : Memref sig .tc .vmem S256x256 .bf16 := Memref.whole cc0_scratch3
abbrev r1 : Memref sig .tc .vmem S4x4x64x256 .bf16 := Memref.whole cc0_scratch4
abbrev r2 : Memref sig .tc .vmem S4x4x64x256 .bf16 := Memref.whole cc0_scratch5

/-- What transfer `x` reads at its sender, -/
def srcM (x : X) : Memref sig .tc .vmem S64x256 .bf16 :=
  match x.2 with
  | 0 => chunk a0 x.1
  | 1 => chunk a1 x.1 | 2 => chunk a1 x.1 | 3 => chunk a1 x.1
  | 4 => chunk a2 x.1 | 5 => chunk a2 x.1 | 6 => chunk a2 x.1
/-- and where it lands. -/
def dstM (x : X) : Memref sig .tc .vmem S64x256 .bf16 :=
  match x.2 with
  | 0 => chunk rx x.1
  | 1 => slot r1 x.1 3 | 2 => slot r1 x.1 2 | 3 => slot r1 x.1 1
  | 4 => slot r2 x.1 3 | 5 => slot r2 x.1 2 | 6 => slot r2 x.1 1

/-! ## The semaphores -/

theorem sx_inb (q : Fin 4) (b : Fin 2) : ∀ a, (![q.val, b.val] : Fin 2 → Nat) a + S1x1.size a ≤ S4x2.size a := by revert q b; decide
theorem s3_inb (q : Fin 4) : ∀ a, (![q.val, 0] : Fin 2 → Nat) a + S1x3.size a ≤ S4x3.size a := by revert q; decide
theorem s3_inb' (j : Fin 3) : ∀ a, (![j.val] : Fin 1 → Nat) a + S1.size a ≤ S3.size a := by revert j; decide
theorem s4_inb (q : Fin 4) : ∀ a, (![q.val, 0] : Fin 2 → Nat) a + S1x4.size a ≤ S4x4.size a := by revert q; decide
theorem s4_inb' (j : Fin 4) : ∀ a, (![j.val] : Fin 1 → Nat) a + S1.size a ≤ S4.size a := by revert j; decide

def semX (q : Fin 4) (b : Fin 2) : DmaSem sig :=
  (((cc0_scratch6 : DmaSems sig S4x2).slice (Rect.unit (s := S4x2) ![q.val, b.val] S1x1.size (sx_inb q b)) : DmaSems sig S1x1).squeeze S_ squeezes_S1x1_S_).sem
def sem3 (A : DmaSems sig S4x3) (q : Fin 4) (j : Fin 3) : DmaSem sig :=
  ((((A.slice (Rect.unit (s := S4x3) ![q.val, 0] S1x3.size (s3_inb q)) : DmaSems sig S1x3).squeeze S3 squeezes_S1x3_S3).slice
    (Rect.unit (s := S3) ![j.val] S1.size (s3_inb' j)) : DmaSems sig S1).squeeze S_ squeezes_S1_S_).sem
def sem4 (A : DmaSems sig S4x4) (q : Fin 4) (j : Fin 4) : DmaSem sig :=
  ((((A.slice (Rect.unit (s := S4x4) ![q.val, 0] S1x4.size (s4_inb q)) : DmaSems sig S1x4).squeeze S4 squeezes_S1x4_S4).slice
    (Rect.unit (s := S4) ![j.val] S1.size (s4_inb' j)) : DmaSems sig S1).squeeze S_ squeezes_S1_S_).sem

/-- The semaphore transfer `x` raises at its sender, -/
def sendSem (x : X) : DmaSem sig :=
  match x.2 with
  | 0 => semX x.1 0
  | 1 => sem3 cc0_scratch7 x.1 0 | 2 => sem3 cc0_scratch7 x.1 1 | 3 => sem3 cc0_scratch7 x.1 2
  | 4 => sem3 cc0_scratch8 x.1 0 | 5 => sem3 cc0_scratch8 x.1 1 | 6 => sem3 cc0_scratch8 x.1 2
/-- and the one it raises where it lands. -/
def recvSem (x : X) : DmaSem sig :=
  match x.2 with
  | 0 => semX x.1 1
  | 1 => sem4 cc0_scratch9 x.1 3 | 2 => sem4 cc0_scratch9 x.1 2 | 3 => sem4 cc0_scratch9 x.1 1
  | 4 => sem4 cc0_scratch10 x.1 3 | 5 => sem4 cc0_scratch10 x.1 2 | 6 => sem4 cc0_scratch10 x.1 1

/-- The runtime's barrier semaphore. -/
abbrev barS : Sem sig := (SemArray.scalar (sig.barrier 0 rfl) : Sems sig S_).sem

/-- A device's cells: the barrier (`none`), transfer `x`'s send semaphore (`some (false, x)`) and its receive semaphore (`some (true, x)`). -/
abbrev CI : Type := Option (Bool × X)
def csem : CI → SemLoc sig
  | none => .reg barS
  | some (false, x) => .dma (sendSem x)
  | some (true, x) => .dma (recvSem x)
abbrev kcell (ci : Dev nD × CI) : GSem nD τ sig := ((ci.1 : Thread nD τ), csem ci.2)

/-- The cells by name. -/
abbrev bCell (c : Dev nD) : GSem nD τ sig := ((c : Thread nD τ), .reg barS)
abbrev sCell (c : Dev nD) (x : X) : GSem nD τ sig := ((c : Thread nD τ), .dma (sendSem x))
abbrev rCell (c : Dev nD) (x : X) : GSem nD τ sig := ((c : Thread nD τ), .dma (recvSem x))

theorem csem_injective : Function.Injective csem := by
  have h : ∀ i j : CI, csem i = csem j → i = j := by decide +kernel
  exact fun i j => h i j

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-- What a transfer credits: the same at every one. -/
def N : ℕ := (chunk a0 0).view.dmaCredit
theorem N_pos : 0 < N := View.dmaCredit_pos _ (by decide)
theorem credit_dst (x : X) : (dstM x).view.dmaCredit = N := by
  obtain ⟨q, t⟩ := x; fin_cases t <;> rfl
theorem credit_src (x : X) : (srcM x).view.dmaCredit = N := by
  obtain ⟨q, t⟩ := x; fin_cases t <;> rfl

end Cert.AllReduce

end
-- ==== Proof.Program.lean ====
/-
The kernel body as one sequence of steps over chunks and transfers, and that the printed body is that sequence.
-/
module

public import proofs.«01_k».proof.Proof.Grid
public import Idealize.ShloMosaic.Lib.Pipeline.Regions

@[expose] public section

noncomputable section

namespace Cert.AllReduce

open Cert.KernelIdeal Cert.KernelIdeal.Gen
open Idealize.ShloMosaic Idealize.SL.Sem
open Idealize.ShloMosaic.TcCoe

variable {F : FTy → Type} [FloatOps F]

/-! ## Evidence the operations carry -/

theorem chunk_words (q : Fin 4) : (chunkR q).WholeWords (EltTy.packing .bf16) :=
  match q with
  | 0 => wordsbf16_S256x256_S64x256_0_0 | 1 => wordsbf16_S256x256_S64x256_64_0
  | 2 => wordsbf16_S256x256_S64x256_128_0 | 3 => wordsbf16_S256x256_S64x256_192_0
theorem chunk_packed (q : Fin 4) : (chunkR q).PackedRows (EltTy.packing .bf16) :=
  match q with
  | 0 => packedbf16_S256x256_S64x256_0_0 | 1 => packedbf16_S256x256_S64x256_64_0
  | 2 => packedbf16_S256x256_S64x256_128_0 | 3 => packedbf16_S256x256_S64x256_192_0
theorem slot3_words (q : Fin 4) : (slotR q 3).WholeWords (EltTy.packing .bf16) :=
  match q with
  | 0 => wordsbf16_S4x4x64x256_S1x1x64x256_0_3_0_0 | 1 => wordsbf16_S4x4x64x256_S1x1x64x256_1_3_0_0
  | 2 => wordsbf16_S4x4x64x256_S1x1x64x256_2_3_0_0 | 3 => wordsbf16_S4x4x64x256_S1x1x64x256_3_3_0_0
theorem slot2_words (q : Fin 4) : (slotR q 2).WholeWords (EltTy.packing .bf16) :=
  match q with
  | 0 => wordsbf16_S4x4x64x256_S1x1x64x256_0_2_0_0 | 1 => wordsbf16_S4x4x64x256_S1x1x64x256_1_2_0_0
  | 2 => wordsbf16_S4x4x64x256_S1x1x64x256_2_2_0_0 | 3 => wordsbf16_S4x4x64x256_S1x1x64x256_3_2_0_0
theorem slot1_words (q : Fin 4) : (slotR q 1).WholeWords (EltTy.packing .bf16) :=
  match q with
  | 0 => wordsbf16_S4x4x64x256_S1x1x64x256_0_1_0_0 | 1 => wordsbf16_S4x4x64x256_S1x1x64x256_1_1_0_0
  | 2 => wordsbf16_S4x4x64x256_S1x1x64x256_2_1_0_0 | 3 => wordsbf16_S4x4x64x256_S1x1x64x256_3_1_0_0

theorem src_exact (x : X) : (srcM x).view.WordExact :=
  match x with
  | (q, 0) => (Memref.isWhole_whole _).wordExact_slice rfl _ (chunk_words q)
  | (q, 1) | (q, 2) | (q, 3) => (Memref.isWhole_whole _).wordExact_slice rfl _ (chunk_words q)
  | (q, 4) | (q, 5) | (q, 6) => (Memref.isWhole_whole _).wordExact_slice rfl _ (chunk_words q)
theorem dst_exact (x : X) : (dstM x).view.WordExact :=
  match x with
  | (q, 0) => (Memref.isWhole_whole _).wordExact_slice rfl _ (chunk_words q)
  | (q, 1) => ((Memref.isWhole_whole _).wordExact_slice rfl _ (slot3_words q)).reshape _ _
  | (q, 2) => ((Memref.isWhole_whole _).wordExact_slice rfl _ (slot2_words q)).reshape _ _
  | (q, 3) => ((Memref.isWhole_whole _).wordExact_slice rfl _ (slot1_words q)).reshape _ _
  | (q, 4) => ((Memref.isWhole_whole _).wordExact_slice rfl _ (slot3_words q)).reshape _ _
  | (q, 5) => ((Memref.isWhole_whole _).wordExact_slice rfl _ (slot2_words q)).reshape _ _
  | (q, 6) => ((Memref.isWhole_whole _).wordExact_slice rfl _ (slot1_words q)).reshape _ _

/-! ## Steps -/

/-- A program of this kernel's body. -/
abbrev Body (F : FTy → Type) := Prog (TpuEff nD τ sig (Elt F) Λ₀ .tc) PUnit

/-- Device `c` sends transfer `x`. -/
def sendP (c : Dev nD) (x : X) (k : Body F) : Body F :=
  .op (.enqueueDma (srcM x) (.remote (Dev.tc (named c x)) (dstM x) (.dma (sendSem x))) (.dma (recvSem x)) (src_exact x) (dst_exact x)
    ⟨⟨rfl, Or.inl rfl⟩, trivial⟩) fun _ => k

/-- Wait for transfer `x` to land here. -/
def recvP (x : X) (k : Body F) : Body F :=
  .op (.waitDma2 (recvSem x) (dstM x) (dstM x) (dst_exact x) (dst_exact x)) fun _ => k

/-- Wait for this device's own transfer `x` to have left. -/
def drainP (x : X) (k : Body F) : Body F :=
  .op (.waitDma2 (sendSem x) (dstM x) (srcM x) (dst_exact x) (src_exact x)) fun _ => k

/-- Load chunk `q` of a 256-row buffer, and slot `s` of chunk `q` of a landing buffer. -/
def loadC {e : EltTy} (M : Memref sig .tc .vmem S256x256 e) (q : Fin 4) (k : Vec F S64x256 e → Body F) : Body F :=
  .op (.load M (chunkR q).toLoadRect (View.loadsAt_vmem h_S64x256)) k
def loadS (M : Memref sig .tc .vmem S4x4x64x256 .bf16) (q s : Fin 4) (k : Vec F S1x1x64x256 .bf16 → Body F) : Body F :=
  .op (.load M (slotR q s).toLoadRect (View.loadsAt_vmem h_S1x1x64x256)) k
/-- Store chunk `q` of a 256-row buffer. -/
def storeC (M : Memref sig .tc .vmem S256x256 .bf16) (hM : M.IsWhole) (q : Fin 4) (v : Vec F S64x256 .bf16) (k : Body F) : Body F :=
  .op (.store M (chunkR q) v Finset.univ (View.stores_vmem h_S64x256 (hM.storeExact_slice rfl _ (chunk_packed q)) (fun _ => rfl)) (.inl rfl)) fun _ => k
def storeO (q : Fin 4) (v : Vec F S64x256 .f32) (k : Body F) : Body F :=
  .op (.store oM (chunkR q) v Finset.univ (View.stores_vmem_bits_univ h_S64x256 rfl) (.inl rfl)) fun _ => k

/-- The exchange of chunk `q` along x is sent. -/
def stage0P (c : Dev nD) (q : Fin 4) (k : Body F) : Body F := sendP c (q, 0) k
/-- Chunk `q` of the x-partner is awaited, the two added and the sum sent to the three partners of the first stage. -/
def stage1P (c : Dev nD) (q : Fin 4) (k : Body F) : Body F :=
  recvP (q, 0) <| loadC a0 q fun u => loadC rx q fun v => loadC a1 q fun _ =>
    storeC a1 (Memref.isWhole_whole _) q (k0_pay2 u v) <| sendP c (q, 1) <| sendP c (q, 2) <| sendP c (q, 3) k
/-- The three first-stage sums of chunk `q` are awaited, added and the sum sent to the three partners of the second stage. -/
def stage2P (c : Dev nD) (q : Fin 4) (k : Body F) : Body F :=
  recvP (q, 3) <| recvP (q, 2) <| recvP (q, 1) <| loadC a1 q fun u => loadS r1 q 1 fun v => loadS r1 q 2 fun w => loadS r1 q 3 fun y => loadC a2 q fun _ =>
    storeC a2 (Memref.isWhole_whole _) q (k0_pay6 u v w y) <| sendP c (q, 4) <| sendP c (q, 5) <| sendP c (q, 6) k
/-- The three second-stage sums of chunk `q` are awaited, added and stored as the result. -/
def stage3P (q : Fin 4) (k : Body F) : Body F :=
  recvP (q, 6) <| recvP (q, 5) <| recvP (q, 4) <| loadC a2 q fun u => loadS r2 q 1 fun v => loadS r2 q 2 fun w => loadS r2 q 3 fun y => loadC oM q fun _ =>
    storeO q (k0_pay11 u v w y) k
/-- The sends of one stage of chunk `q` are awaited. -/
def drain0P (q : Fin 4) (k : Body F) : Body F := drainP (q, 0) k
def drain1P (q : Fin 4) (k : Body F) : Body F := drainP (q, 1) <| drainP (q, 2) <| drainP (q, 3) k
def drain2P (q : Fin 4) (k : Body F) : Body F := drainP (q, 4) <| drainP (q, 5) <| drainP (q, 6) k

/-- The order the chunks are taken in. -/
abbrev order : List (Fin 4) := [0, 2, 1, 3]
/-- A step at every chunk, in order. -/
def each (f : Fin 4 → Body F → Body F) (l : List (Fin 4)) (k : Body F) : Body F := l.foldr f k

/-- Device `c` signals its partner in direction `d`. -/
def signalP (c : Dev nD) (d : Fin 7) (k : Body F) : Body F := .op (.semSignal (signalled c d, .tc) barS 1) fun _ => k

/-- The part of the body between the barrier and the end. -/
def mainP (c : Dev nD) : Body F :=
  each (stage0P c) order <| each (stage1P c) order <| each (stage2P c) order <| each stage3P order <|
    each drain0P order <| each drain1P order <| each drain2P order <| .ret ⟨⟩

/-- The staged argument is copied to the first accumulator. -/
def copyP (k : Body F) : Body F :=
  .op (.load xM (Rect.unit (s := S1x1x1x256x256) ![0, 0, 0, 0, 0] S1x1x1x256x256.size inb_S1x1x1x256x256_S1x1x1x256x256_0_0_0_0_0).toLoadRect (View.loadsAt_vmem h_S1x1x1x256x256)) fun v =>
  .op (.load a0 (Rect.unit (s := S256x256) ![0, 0] S256x256.size inb_S256x256_S256x256_0_0).toLoadRect (View.loadsAt_vmem h_S256x256)) fun _ =>
  .op (.store a0 (Rect.unit (s := S256x256) ![0, 0] S256x256.size inb_S256x256_S256x256_0_0) (k0_pay1 v) Finset.univ
    (View.stores_vmem h_S256x256 ((Memref.isWhole_whole _).storeExact_slice rfl _ packedbf16_S256x256_S256x256_0_0) (fun _ => rfl)) (.inl rfl)) fun _ => k

/-- The whole body of device `c`. -/
def bodyP (c : Dev nD) : Body F :=
  [0, 1, 2, 3, 4, 5, 6].foldr (signalP c) <| copyP <| .op (.semWait barS 7) fun _ => mainP c

set_option maxRecDepth 65536 in
/-- The printed body, at this kernel's buffers, is that sequence. -/
theorem body_eq (h0 h1 h2 h3 h4 h5 h6 h7) :
    cc0_body (F := F) xM h0 oM h1 a0 h2 a1 h3 a2 h4 rx h5 r1 h6 r2 h7 cc0_scratch6 cc0_scratch7 cc0_scratch8 cc0_scratch9 cc0_scratch10
      = .op .deviceId fun c => bodyP c := by
  chain_rfl

end Cert.AllReduce

end
-- ==== Proof.Sched.lean ====
/-
The values the transfers carry, the schedule of the cells they go through, and what a device owes while it runs.
-/
module

public import proofs.«01_k».proof.Proof.Program
public import Idealize.ShloMosaic.Lib.Pipeline.Value

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Values -/

/-- The four-term sum of the second and third stages, in the kernel's order. -/
def sum4 (a b c d : FVec F S64x256 .bf16) : FVec F S64x256 .bf16 := addf (addf (addf a b) c) d

theorem pay2_eq (u v : FVec F S64x256 .bf16) : k0_pay2 u v = addf u v := shapeCast_self _ _
theorem pay6_eq (u : FVec F S64x256 .bf16) (v w y : FVec F S1x1x64x256 .bf16) :
    k0_pay6 u v w y = sum4 u (shapeCast S64x256 v shapeCasts_S1x1x64x256_S64x256) (shapeCast S64x256 w shapeCasts_S1x1x64x256_S64x256)
      (shapeCast S64x256 y shapeCasts_S1x1x64x256_S64x256) := shapeCast_self _ _
theorem pay11_eq (u : FVec F S64x256 .bf16) (v w y : FVec F S1x1x64x256 .bf16) :
    k0_pay11 u v w y = extf .f32 (sum4 u (shapeCast S64x256 v shapeCasts_S1x1x64x256_S64x256) (shapeCast S64x256 w shapeCasts_S1x1x64x256_S64x256)
      (shapeCast S64x256 y shapeCasts_S1x1x64x256_S64x256)) bitsLt_bf16_f32 := rfl

section Values
variable (B : Dev nD → FVec F S256x256 .bf16)

/-- Chunk `q` of what device `c` starts from; -/
def A0 (c : Dev nD) (q : Fin 4) : FVec F S64x256 .bf16 := (chunk a0 q).view.read (Elt F) (B c)
/-- of the sum over x; -/
def A1 (c : Dev nD) (q : Fin 4) : FVec F S64x256 .bf16 := addf (A0 B c q) (A0 B (sender c (q, 0)) q)
/-- of the sum over the first stage's axis too; -/
def A2 (c : Dev nD) (q : Fin 4) : FVec F S64x256 .bf16 :=
  sum4 (A1 B c q) (A1 B (sender c (q, 3)) q) (A1 B (sender c (q, 2)) q) (A1 B (sender c (q, 1)) q)
/-- and of the sum over the whole mesh, widened. -/
def A3 (c : Dev nD) (q : Fin 4) : FVec F S64x256 .f32 :=
  extf .f32 (sum4 (A2 B c q) (A2 B (sender c (q, 6)) q) (A2 B (sender c (q, 5)) q) (A2 B (sender c (q, 4)) q)) bitsLt_bf16_f32

/-- What device `c`'s transfer `x` carries. -/
def val (c : Dev nD) (x : X) : FVec F S64x256 .bf16 :=
  match x.2 with
  | 0 => A0 B c x.1
  | 1 => A1 B c x.1 | 2 => A1 B c x.1 | 3 => A1 B c x.1
  | 4 => A2 B c x.1 | 5 => A2 B c x.1 | 6 => A2 B c x.1
end Values

/-- The share of its source a transfer holds while it is in flight. -/
def shr (x : X) : PosShare TreeShare :=
  match x.2 with
  | 0 => fullShare.left
  | 1 => fullShare.left.left | 2 => fullShare.left.right | 3 => fullShare.right.left
  | 4 => fullShare.left.left | 5 => fullShare.left.right | 6 => fullShare.right.left

/-! ## The schedule -/

/-- Which cell of this kernel a semaphore is, if it is one. -/
def unk (g : GSem nD τ sig) : Option (Dev nD × CI) := by
  classical exact if h : ∃ ci, kcell ci = g then some h.choose else none
theorem unk_kcell (ci : Dev nD × CI) : unk (kcell ci) = some ci := by
  have h : ∃ ci', kcell ci' = kcell ci := ⟨ci, rfl⟩
  unfold unk
  rw [dif_pos h]
  exact congrArg some (kcell_injective h.choose_spec)
theorem unk_of_ne {c : Dev nD} {s : SemLoc sig} (h : ∀ i, csem i ≠ s) : unk ((c : Thread nD τ), s) = none := by
  unfold unk
  rw [dif_neg]
  rintro ⟨ci, hci⟩
  exact h ci.2 (congrArg Prod.snd hci)

/-- What a duty of a cell hands over: at the barrier, the landing places of the transfers its waiter will send in that
    direction; at a send semaphore, the share of the source lent to the transfer; at a receive semaphore, what landed. -/
def pay (B : Dev nD → FVec F S256x256 .bf16) : Dev nD × CI → Fin 7 → sProp 𝕄
  | (c, none), k => bigSep (Finset.univ.filter fun x : X => kind x = k) fun x => iprop(∃ V, owns (move c k : Thread nD τ) (dstM x) fullShare V)
  | (c, some (false, x)), _ => owns (c : Thread nD τ) (srcM x) (shr x) (val B c x)
  | (c, some (true, x)), _ => owns (c : Thread nD τ) (dstM x) fullShare (val B (sender c x) x)

instance pay_storable (B : Dev nD → FVec F S256x256 .bf16) (ci : Dev nD × CI) (k : Fin 7) : BI.Storable (upEmb : UEmb _ 𝕄) (pay B ci k) := by
  obtain ⟨c, _ | ⟨_ | _, x⟩⟩ := ci <;> (unfold pay; infer_instance)

def dutiesOf : CI → Finset (Fin 7)
  | none => Finset.univ
  | some _ => {0}
def amountOf : CI → ℕ
  | none => 1
  | some _ => N
theorem amountOf_pos (i : CI) : 0 < amountOf i := by cases i <;> [exact Nat.one_pos; exact N_pos]

/-- One round: a barrier cell has a duty of one unit from each direction, a transfer's cell one duty of its credit. -/
def Rd (B : Dev nD → FVec F S256x256 .bf16) : Rounds.Schedule (GSem nD τ sig) (Fin 7) 𝕄 where
  duties g r := if r = 0 then (match unk g with | some ci => dutiesOf ci.2 | none => ∅) else ∅
  unitless _ := False
  amount g _ _ := match unk g with | some ci => amountOf ci.2 | none => 1
  payload g _ d := match unk g with | some ci => pay B ci d | none => iprop(emp)
  amount_pos g _ _ _ := by
    cases h : unk g with
    | none => exact Nat.one_pos
    | some ci => exact amountOf_pos ci.2

section Sched
variable (B : Dev nD → FVec F S256x256 .bf16)

instance Rd_payload_storable (g : GSem nD τ sig) (r : ℕ) (d : Fin 7) : BI.Storable (upEmb : UEmb _ 𝕄) ((Rd (F := F) B).payload g r d) := by
  show BI.Storable upEmb (match unk g with | some ci => pay B ci d | none => iprop(emp))
  cases unk g <;> (dsimp only; infer_instance)

theorem duties_kcell (ci : Dev nD × CI) : (Rd (F := F) B).duties (kcell ci) 0 = dutiesOf ci.2 := by
  show (if (0 : ℕ) = 0 then (match unk (kcell ci) with | some ci => dutiesOf ci.2 | none => ∅) else ∅) = _
  rw [if_pos rfl, unk_kcell]
theorem duties_later (g : GSem nD τ sig) : ∀ r, 1 ≤ r → (Rd (F := F) B).duties g r = ∅ := fun r hr => if_neg (by omega)
theorem amount_kcell (ci : Dev nD × CI) (d : Fin 7) : (Rd (F := F) B).amount (kcell ci) 0 d = amountOf ci.2 := by
  show (match unk (kcell ci) with | some ci => amountOf ci.2 | none => 1) = _
  rw [unk_kcell]
theorem payload_kcell (ci : Dev nD × CI) (d : Fin 7) : (Rd (F := F) B).payload (kcell ci) 0 d = pay B ci d := by
  show (match unk (kcell ci) with | some ci => pay B ci d | none => iprop(emp)) = _
  rw [unk_kcell]
theorem expect_bar (c : Dev nD) : (Rd (F := F) B).expect (kcell (c, none)) 0 = 7 := by
  unfold Schedule.expect Schedule.amountOf
  rw [duties_kcell, Finset.sum_congr rfl fun d _ => amount_kcell B (c, none) d]
  rfl
theorem expect_xfer (c : Dev nD) (bx : Bool × X) : (Rd (F := F) B).expect (kcell (c, some bx)) 0 = N := by
  unfold Schedule.expect Schedule.amountOf
  rw [duties_kcell, Finset.sum_congr rfl fun d _ => amount_kcell B (c, some bx) d]
  exact Finset.sum_singleton _ _
theorem rest_xfer (c : Dev nD) (bx : Bool × X) :
    bigSep ((Rd (F := F) B).duties (kcell (c, some bx)) 0 \ ∅) (fun d => (Rd (F := F) B).payload (kcell (c, some bx)) 0 d) = pay B (c, some bx) 0 := by
  rw [Finset.sdiff_empty, duties_kcell]
  exact (bigSep_singleton).trans (payload_kcell B _ _)
/-- The barrier's round hands its waiter every landing place its transfers go to. -/
theorem rest_bar (c : Dev nD) :
    bigSep ((Rd (F := F) B).duties (kcell (c, none)) 0 \ ∅) (fun d => (Rd (F := F) B).payload (kcell (c, none)) 0 d)
      = bigSep Finset.univ fun x : X => iprop(∃ V, owns (tgt c x : Thread nD τ) (dstM x) fullShare V) := by
  rw [Finset.sdiff_empty, duties_kcell, bigSep_congr (fun d _ => payload_kcell B (c, none) d)]
  rw [bigSep_fiberwise Finset.univ kind]
  have hi : Finset.univ.image kind = (Finset.univ : Finset (Fin 7)) := by decide
  rw [hi]
  refine bigSep_congr fun k _ => ?_
  show bigSep (Finset.univ.filter fun x : X => kind x = k) _ = _
  refine bigSep_congr fun x hx => ?_
  rw [← (Finset.mem_filter.mp hx).2]; rfl

/-- The same of the cells by name. -/
theorem duties_b (c : Dev nD) : (Rd (F := F) B).duties (bCell c) 0 = Finset.univ := duties_kcell B (c, none)
theorem duties_s (c : Dev nD) (x : X) : (Rd (F := F) B).duties (sCell c x) 0 = {0} := duties_kcell B (c, some (false, x))
theorem duties_r (c : Dev nD) (x : X) : (Rd (F := F) B).duties (rCell c x) 0 = {0} := duties_kcell B (c, some (true, x))
theorem amount_b (c : Dev nD) (d : Fin 7) : (Rd (F := F) B).amount (bCell c) 0 d = 1 := amount_kcell B (c, none) d
theorem amount_s (c : Dev nD) (x : X) (d : Fin 7) : (Rd (F := F) B).amount (sCell c x) 0 d = N := amount_kcell B (c, some (false, x)) d
theorem amount_r (c : Dev nD) (x : X) (d : Fin 7) : (Rd (F := F) B).amount (rCell c x) 0 d = N := amount_kcell B (c, some (true, x)) d
theorem expect_b (c : Dev nD) : (Rd (F := F) B).expect (bCell c) 0 = 7 := expect_bar B c
theorem expect_s (c : Dev nD) (x : X) : (Rd (F := F) B).expect (sCell c x) 0 = N := expect_xfer B c (false, x)
theorem expect_r (c : Dev nD) (x : X) : (Rd (F := F) B).expect (rCell c x) 0 = N := expect_xfer B c (true, x)
theorem payload_b (c : Dev nD) (k : Fin 7) : (Rd (F := F) B).payload (bCell c) 0 k
    = bigSep (Finset.univ.filter fun x : X => kind x = k) fun x => iprop(∃ V, owns (move c k : Thread nD τ) (dstM x) fullShare V) := payload_kcell B (c, none) k
theorem payload_s (c : Dev nD) (x : X) (d : Fin 7) : (Rd (F := F) B).payload (sCell c x) 0 d = owns (c : Thread nD τ) (srcM x) (shr x) (val B c x) :=
  payload_kcell B (c, some (false, x)) d
theorem payload_r (c : Dev nD) (x : X) (d : Fin 7) : (Rd (F := F) B).payload (rCell c x) 0 d = owns (c : Thread nD τ) (dstM x) fullShare (val B (sender c x) x) :=
  payload_kcell B (c, some (true, x)) d
theorem rest_b (c : Dev nD) : bigSep ((Rd (F := F) B).duties (bCell c) 0 \ ∅) (fun d => (Rd (F := F) B).payload (bCell c) 0 d)
      = bigSep Finset.univ fun x : X => iprop(∃ V, owns (tgt c x : Thread nD τ) (dstM x) fullShare V) := rest_bar B c
theorem rest_s (c : Dev nD) (x : X) : bigSep ((Rd (F := F) B).duties (sCell c x) 0 \ ∅) (fun d => (Rd (F := F) B).payload (sCell c x) 0 d)
      = owns (c : Thread nD τ) (srcM x) (shr x) (val B c x) := rest_xfer B c (false, x)
theorem rest_r (c : Dev nD) (x : X) : bigSep ((Rd (F := F) B).duties (rCell c x) 0 \ ∅) (fun d => (Rd (F := F) B).payload (rCell c x) 0 d)
      = owns (c : Thread nD τ) (dstM x) fullShare (val B (sender c x) x) := rest_xfer B c (true, x)

end Sched

/-! ## Levels and what is owed -/

/-- A cell's level: barriers below receive cells, those by stage; send cells (and every other semaphore) lowest. -/
def lvOf : CI → ℕ
  | none => 1
  | some (true, x) => 2 + (stg x.2).val
  | some (false, _) => 0
def L (g : GSem nD τ sig) : Finset Unit := if g.1.2 = .tc then {()} else ∅
def lv (g : GSem nD τ sig) (_ : Unit) : ℕ := match unk g with | some ci => lvOf ci.2 | none => 0
theorem L_of_ne (g : GSem nD τ sig) (h : g.1.2 ≠ .tc) : L g = ∅ := if_neg h
theorem L_tc (c : Dev nD) (sm : SemLoc sig) : L ((c : Thread nD τ), sm) = {()} := if_pos rfl
theorem lv_kcell (ci : Dev nD × CI) (u : Unit) : lv (kcell ci) u = lvOf ci.2 := by unfold lv; rw [unk_kcell]
theorem lv_b (c : Dev nD) : lv (bCell c) () = 1 := lv_kcell (c, none) ()
theorem lv_r (c : Dev nD) (x : X) : lv (rCell c x) () = 2 + (stg x.2).val := lv_kcell (c, some (true, x)) ()

/-- What device `c` owes for the signals in directions `l` not yet sent, and for the transfers `l` not yet sent. -/
def owedB (c : Dev nD) (l : List (Fin 7)) : CellTallies nD τ sig Unit := (l.map fun k => tallyAt (bCell (move c k)) () 1).sum
def owedX (c : Dev nD) (l : List X) : CellTallies nD τ sig Unit := (l.map fun x => tallyAt (rCell (tgt c x) x) () N).sum

theorem owedB_cons (c : Dev nD) (k : Fin 7) (l : List (Fin 7)) : owedB c (k :: l) = owedB c l + tallyAt (bCell (move c k)) () 1 := by
  unfold owedB; rw [List.map_cons, List.sum_cons, add_comm]
theorem owedX_cons (c : Dev nD) (x : X) (l : List X) : owedX c (x :: l) = owedX c l + tallyAt (rCell (tgt c x) x) () N := by
  unfold owedX; rw [List.map_cons, List.sum_cons, add_comm]

theorem owedB_pos {c : Dev nD} {g : GSem nD τ sig} {u : Unit} : ∀ {l : List (Fin 7)}, 0 < owedB c l g u → ∃ k ∈ l, g = bCell (move c k)
  | [], h => absurd h (Nat.lt_irrefl 0)
  | k :: l, h => by
    rw [owedB_cons, Pi.add_apply, Finsupp.add_apply, tallyAt_apply] at h
    by_cases hg : g = bCell (move c k) ∧ u = ()
    · exact ⟨k, List.mem_cons_self, hg.1⟩
    · rw [if_neg hg, Nat.add_zero] at h
      obtain ⟨k', hk, e⟩ := owedB_pos h
      exact ⟨k', List.mem_cons_of_mem _ hk, e⟩
theorem owedX_pos {c : Dev nD} {g : GSem nD τ sig} {u : Unit} : ∀ {l : List X}, 0 < owedX c l g u → ∃ x ∈ l, g = rCell (tgt c x) x
  | [], h => absurd h (Nat.lt_irrefl 0)
  | x :: l, h => by
    rw [owedX_cons, Pi.add_apply, Finsupp.add_apply, tallyAt_apply] at h
    by_cases hg : g = rCell (tgt c x) x ∧ u = ()
    · exact ⟨x, List.mem_cons_self, hg.1⟩
    · rw [if_neg hg, Nat.add_zero] at h
      obtain ⟨x', hx, e⟩ := owedX_pos h
      exact ⟨x', List.mem_cons_of_mem _ hx, e⟩

/-- A device may wait at a semaphore below every receive cell it still owes. -/
theorem mayWait_of (c : Dev nD) (s : SemLoc sig) (n : ℕ) (hs : lv ((c : Thread nD τ), s) () ≤ n) (l : List X)
    (hl : ∀ x ∈ l, n < 2 + (stg x.2).val) : (levAts L lv : sProp 𝕄) ⊢ MayWait (c : Thread nD τ) s () (owedX c l) :=
  MayOwe.of_cut (L := L) (lev := lv) n (fun p hp => by rw [Finset.mem_singleton.mp hp, L_tc]; exact Finset.mem_singleton_self _)
    (fun g u hg => by obtain ⟨x, -, rfl⟩ := owedX_pos hg; rw [L_tc]; exact Finset.mem_singleton_self _)
    (fun p hp => by rw [Finset.mem_singleton.mp hp]; exact hs)
    (fun g u hg => by obtain ⟨x, hx, rfl⟩ := owedX_pos hg; rw [lv_r]; exact hl x hx)

/-- Every transfer, in the order a device sends them. -/
def own1 (q : Fin 4) : List X := [(q, 1), (q, 2), (q, 3)]
def own2 (q : Fin 4) : List X := [(q, 4), (q, 5), (q, 6)]
def all2 : List X := order.flatMap own2
def all1 : List X := order.flatMap own1 ++ all2
def all0 : List X := order.map (·, 0) ++ all1
def dirs : List (Fin 7) := [0, 1, 2, 3, 4, 5, 6]

/-- What device `c` owes at launch. -/
def O₀ (c : Dev nD) : CellTallies nD τ sig Unit := owedX c all0 + owedB c dirs
theorem O₀_pos {c : Dev nD} {g : GSem nD τ sig} {u : Unit} (h : 0 < O₀ c g u) :
    ∃ d, ∃ i : CI, g = kcell (d, i) ∧ 0 < lvOf i := by
  unfold O₀ at h
  rw [Pi.add_apply, Finsupp.add_apply] at h
  rcases Nat.eq_zero_or_pos (owedX c all0 g u) with h0 | h0
  · rw [h0, Nat.zero_add] at h
    obtain ⟨k, -, rfl⟩ := owedB_pos h
    exact ⟨move c _, none, rfl, Nat.one_pos⟩
  · obtain ⟨x, -, rfl⟩ := owedX_pos h0
    exact ⟨tgt c x, some (true, x), rfl, Nat.lt_of_lt_of_le Nat.two_pos (Nat.le_add_right _ _)⟩

/-- At a staging semaphore a device may wait owing everything or nothing. -/
theorem mayWait_stage (c : Dev nD) (s : SemLoc sig) (hs : ∀ i, csem i ≠ s) (O : CellTallies nD τ sig Unit) (hO : O = O₀ c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp, L_tc]; exact Finset.mem_singleton_self _)
      (fun g u hg => by obtain ⟨d, i, rfl, -⟩ := O₀_pos hg; exact Finset.mem_singleton_self _)
      (fun p hp => by rw [Finset.mem_singleton.mp hp]; unfold lv; rw [unk_of_ne hs])
      (fun g u hg => by obtain ⟨d, i, rfl, hi⟩ := O₀_pos hg; rw [lv_kcell]; exact hi)
  · rw [MayWait_zero]; iintro -; iempintro

end Cert.AllReduce

end
-- ==== Proof.Steps.lean ====
/-
One lemma per operation of the body: a send, a wait for a landing, a wait for a send to have left, a load and a store of a chunk.
-/
module

public import proofs.«01_k».proof.Proof.Sched

@[expose] public section

set_option maxRecDepth 65536

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The body's program `P` run on device `c` to `Q`. -/
abbrev run (c : Dev nD) (P : Body F) (Q : PUnit.{1} → sProp 𝕄) : sProp 𝕄 :=
  wp frame (wpE (defs₀ (F := F)) 𝒱₀ (c : Thread nD τ) none) Set.univ P Q

/-- Device `c` owes `O`, whatever it has waited at. -/
def ow (c : Dev nD) (O : CellTallies nD τ sig Unit) : sProp 𝕄 := iprop(∃ W, owes (c : Thread nD τ) O W)

variable (B : Dev nD → FVec F S256x256 .bf16) (K : Dev nD × CI → ℕ)

/-- What is known of all cells: their invariants, that round 0 is open at each, the levels. -/
def records : sProp 𝕄 :=
  iprop((bigSep Finset.univ fun ci : Dev nD × CI => cellInv ER (Rd B) (K ci) (kcell ci))
    ∗ (bigSep Finset.univ fun ci : Dev nD × CI => reached ER (kcell ci) 0) ∗ (levAts L lv : sProp 𝕄))

instance records_persistent : BI.Persistent (records B K) := by unfold records; infer_instance

theorem inv_at (ci : Dev nD × CI) :
    (bigSep Finset.univ fun ci : Dev nD × CI => (cellInv ER (Rd B) (K ci) (kcell ci) : sProp 𝕄)) ⊢ cellInv ER (Rd B) (K ci) (kcell ci) :=
  bigSep_elim (Finset.mem_univ ci)
theorem reached_at (ci : Dev nD × CI) :
    (bigSep Finset.univ fun ci : Dev nD × CI => (reached ER (kcell ci) 0 : sProp 𝕄)) ⊢ reached ER (kcell ci) 0 :=
  bigSep_elim (Finset.mem_univ ci)
theorem records_inv (ci : Dev nD × CI) : (records B K : sProp 𝕄) ⊢ cellInv ER (Rd B) (K ci) (kcell ci) := by
  unfold records; iintro ⟨H, -, -⟩; iapply (inv_at B K ci); iexact H
theorem records_reached (ci : Dev nD × CI) : (records B K : sProp 𝕄) ⊢ reached ER (kcell ci) 0 := by
  unfold records; iintro ⟨-, H, -⟩; iapply (reached_at (F := F) ci); iexact H
theorem records_lev : (records B K : sProp 𝕄) ⊢ (levAts L lv : sProp 𝕄) := by
  unfold records; iintro ⟨-, -, H⟩; iexact H
theorem inv_b (c : Dev nD) : (records B K : sProp 𝕄) ⊢ cellInv ER (Rd B) (K (c, none)) (bCell c) := records_inv B K (c, none)
theorem inv_s (c : Dev nD) (x : X) : (records B K : sProp 𝕄) ⊢ cellInv ER (Rd B) (K (c, some (false, x))) (sCell c x) := records_inv B K (c, some (false, x))
theorem inv_r (c : Dev nD) (x : X) : (records B K : sProp 𝕄) ⊢ cellInv ER (Rd B) (K (c, some (true, x))) (rCell c x) := records_inv B K (c, some (true, x))
theorem reached_b (c : Dev nD) : (records B K : sProp 𝕄) ⊢ reached ER (bCell c) 0 := records_reached B K (c, none)
theorem reached_s (c : Dev nD) (x : X) : (records B K : sProp 𝕄) ⊢ reached ER (sCell c x) 0 := records_reached B K (c, some (false, x))
theorem reached_r (c : Dev nD) (x : X) : (records B K : sProp 𝕄) ⊢ reached ER (rCell c x) 0 := records_reached B K (c, some (true, x))

theorem mayWait_recv (c : Dev nD) (x : X) (l : List X) (hl : ∀ y ∈ l, (stg x.2).val < (stg y.2).val) :
    (records B K : sProp 𝕄) ⊢ MayWait (c : Thread nD τ) (.dma (recvSem x)) () (owedX c l) := by
  have h1 : lv ((c : Thread nD τ), .dma (recvSem x)) () ≤ 2 + (stg x.2).val := le_of_eq (lv_r c x)
  have h2 : ∀ y ∈ l, 2 + (stg x.2).val < 2 + (stg y.2).val := fun y hy => Nat.add_lt_add_left (hl y hy) 2
  generalize recvSem x = s at h1 ⊢
  exact (records_lev B K).trans (mayWait_of c (.dma s) (2 + (stg x.2).val) h1 l h2)

/-! ## What a transfer needs and leaves -/

/-- To send transfer `x`: the two duty tokens and the landing place at the target. -/
def sendR (c : Dev nD) (x : X) : sProp 𝕄 :=
  iprop(dutyTok ER (sCell c x) 0 0 ∗ dutyTok ER (rCell (tgt c x) x) 0 0
    ∗ ∃ V, owns (tgt c x : Thread nD τ) (dstM x) fullShare V)
/-- To await it: the credit promised and the position at the receive cell. -/
def recvR (c : Dev nD) (x : X) : sProp 𝕄 :=
  iprop(cred (tallyAt (rCell c x) () N) ∗ atPos ER (rCell c x) 0 ∅ 0)
/-- Awaited: what landed, and the receive semaphore at zero. -/
def doneR (c : Dev nD) (x : X) : sProp 𝕄 :=
  iprop(owns (c : Thread nD τ) (dstM x) fullShare (val B (sender c x) x) ∗ semVal (rCell c x) 0)
/-- Sent: the credit for the wait at the send cell. -/
def sentR (c : Dev nD) (x : X) : sProp 𝕄 := cred (tallyAt (sCell c x) () N)
/-- The share of the source the transfer reads. -/
def srcR (c : Dev nD) (x : X) : sProp 𝕄 := owns (c : Thread nD τ) (srcM x) (shr x) (val B c x)
/-- The position at the send cell, and that semaphore at zero. -/
def posR (c : Dev nD) (x : X) : sProp 𝕄 := atPos ER (sCell c x) 0 ∅ 0
def zeroR (c : Dev nD) (x : X) : sProp 𝕄 := semVal (sCell c x) 0

section Rules

theorem wp_send_named (c : Dev nD) (x : X) (Q : PUnit.{1} → sProp 𝕄) (n : Dev nD) (hn : n = tgt c x) {hsc} {hsrc : (srcM x).view.WordExact} {hdst : (dstM x).view.WordExact}
    {hsem : DmaTarget.Typed .vmem (.dma (recvSem x)) (.remote (Dev.tc n : Thread nD τ) (dstM x) (.dma (sendSem x)) hsc)}
    (k : PUnit → Body F) (l : List X) :
    iprop(records B K ∗ srcR B c x ∗ sendR c x ∗ ow c (owedX c (x :: l)))
      ⊢ iprop(((sentR c x ∗ ow c (owedX c l)) -∗ run c (k ⟨⟩) Q)
          -∗ run c (.op (.enqueueDma (srcM x) (.remote (Dev.tc n : Thread nD τ) (dstM x) (.dma (sendSem x)) hsc) (.dma (recvSem x)) hsrc hdst hsem) k) Q) := by
  subst hn
  unfold srcR sendR sentR ow owns
  iintro ⟨#HR, ⟨%fs, %hfs, Hs⟩, ⟨HtS, HtR, ⟨%V, %fd, -, Hd⟩⟩, ⟨%W, HO⟩⟩ Hk
  iapply (Rounds.wp_send_pointsTo 𝒱₀ ER (Rd B) (c : Thread nD τ) none (κ₁ := K (c, some (false, x))) (κ₂ := K (tgt c x, some (true, x)))
    (r₁ := 0) (r₂ := 0) (d₁ := 0) (d₂ := 0) (fd := fd) (fs := fs) (q := shr x) (sS := .dma (sendSem x)) (sem := .dma (recvSem x))
    (by rw [duties_s]; exact Finset.mem_singleton_self _)
    (by rw [duties_r]; exact Finset.mem_singleton_self _)
    () () N (show (dstM x).view.amount (.dma (recvSem x)) = N from credit_dst x) (amount_s B c x 0) (amount_r B (tgt c x) x 0) (owedX c l) (owedX_cons c x l) (W := W)
    (by
      rw [payload_s]
      rw [← hfs]; exact owns_intro _ _ _ _)
    (by
      rw [payload_r, sender_tgt, ← hfs]
      refine (owns_intro _ _ _ _).trans (Entails.of_eq ?_)
      rw [View.read_write_univ])) $$ [HtS HtR Hs Hd HO]
  · isplitr; · iapply (inv_s B K c x); iexact HR
    isplitr; · iapply (inv_r B K (tgt c x) x); iexact HR
    isplitl [Hs]; · iexact Hs
    isplitl [Hd]; · iexact Hd
    isplitl [HO]; · iexact HO
    isplitl [HtS]; · iexact HtS
    isplitr; · iapply (reached_s B K c x); iexact HR
    isplitl [HtR]; · iexact HtR
    iapply (reached_r B K (tgt c x) x); iexact HR
  iintro ⟨HcS, HO⟩
  iapply Hk
  isplitl [HcS]; · iexact HcS
  iexists W; iexact HO

/-- A send: its source share and the target's landing place go, the credit for the wait at the send cell comes. -/
theorem send_rule (c : Dev nD) (x : X) (Q : PUnit.{1} → sProp 𝕄) (k : Body F) (l : List X) :
    iprop(records B K ∗ srcR B c x ∗ sendR c x ∗ ow c (owedX c (x :: l)))
      ⊢ iprop(((sentR c x ∗ ow c (owedX c l)) -∗ run c k Q) -∗ run c (sendP c x k) Q) :=
  wp_send_named B K c x Q (named c x) (named_eq c x) (fun _ => k) l

/-- A wait for a landing, owing only transfers of later stages: what landed comes, and the receive cell is closed. -/
theorem recv_rule (c : Dev nD) (x : X) (Q : PUnit.{1} → sProp 𝕄) (k : Body F) (l : List X) (hl : ∀ y ∈ l, (stg x.2).val < (stg y.2).val) :
    iprop(records B K ∗ recvR c x ∗ ow c (owedX c l))
      ⊢ iprop(((doneR B c x ∗ ow c (owedX c l)) -∗ run c k Q) -∗ run c (recvP x k) Q) := by
  unfold recvR doneR ow recvP
  iintro ⟨#HR, ⟨Hc, Hat⟩, ⟨%W, HO⟩⟩ Hk
  iapply (Rounds.wp_wait_rest_token 𝒱₀ ER (Rd B) (c : Thread nD τ) none (κ := K (c, some (true, x))) (sm := .dma (recvSem x))
      (wpE_waitDma2_eq 𝒱₀ (c : Thread nD τ) none Set.univ) (Set.mem_univ _) () (O := owedX c l) (W := W) (R := 0) (m := 0) (T := ∅)
      (by rw [Nat.zero_add, expect_r]; exact credit_dst x)) $$ [Hc HO Hat]
  · isplitr; · iapply (inv_r B K c x); iexact HR
    isplitl [Hc]; · rw [credit_dst x]; iexact Hc
    isplitl [HO]; · iexact HO
    isplitr
    · iapply (mayWait_recv B K c x l hl); iexact HR
    iexact Hat
  iintro ⟨HO, Hat, -, Hpay⟩
  ihave Hp := (Entails.of_eq (rest_r B c x)) $$ Hpay
  imod (Rounds.cell_close ER (Rd B) (Set.mem_univ (K (c, some (true, x)))) (fun h => h) (R := 0 + 1) (duties_later B (rCell c x))) $$ [Hat] with Hz
  · isplitr; · iapply (inv_r B K c x); iexact HR
    iexact Hat
  iapply Hk
  isplitl [Hp Hz]
  · isplitl [Hp] <;> iassumption
  iexists _; iexact HO

/-- A wait for a send to have left, owing nothing: the source share comes back, and the send cell is closed. -/
theorem drain_rule (c : Dev nD) (x : X) (Q : PUnit.{1} → sProp 𝕄) (k : Body F) :
    iprop(records B K ∗ sentR c x ∗ posR c x ∗ ow c 0)
      ⊢ iprop(((srcR B c x ∗ zeroR c x ∗ ow c 0) -∗ run c k Q) -∗ run c (drainP x k) Q) := by
  unfold sentR posR srcR zeroR ow drainP
  iintro ⟨#HR, Hc, Hat, ⟨%W, HO⟩⟩ Hk
  iapply (Rounds.wp_wait_rest_token 𝒱₀ ER (Rd B) (c : Thread nD τ) none (κ := K (c, some (false, x))) (sm := .dma (sendSem x))
      (wpE_waitDma2_eq 𝒱₀ (c : Thread nD τ) none Set.univ) (Set.mem_univ _) () (O := 0) (W := W) (R := 0) (m := 0) (T := ∅)
      (by rw [Nat.zero_add, expect_s]; exact credit_src x)) $$ [Hc HO Hat]
  · isplitr; · iapply (inv_s B K c x); iexact HR
    isplitl [Hc]; · rw [credit_src x]; iexact Hc
    isplitl [HO]; · iexact HO
    isplitr; · rw [MayWait_zero]; iempintro
    iexact Hat
  iintro ⟨HO, Hat, -, Hpay⟩
  ihave Hp := (Entails.of_eq (rest_s B c x)) $$ Hpay
  imod (Rounds.cell_close ER (Rd B) (Set.mem_univ (K (c, some (false, x)))) (fun h => h) (R := 0 + 1) (duties_later B (sCell c x))) $$ [Hat] with Hz
  · isplitr; · iapply (inv_s B K c x); iexact HR
    iexact Hat
  iapply Hk
  isplitl [Hp]; · iexact Hp
  isplitl [Hz]; · iexact Hz
  iexists _; iexact HO

end Rules

/-! ## Loads and stores -/

section Mem

/-- A load of a chunk held at any share reads what it holds. -/
theorem loadC_rule (c : Dev nD) (Q : PUnit.{1} → sProp 𝕄) {e : EltTy} (M : Memref sig .tc .vmem S256x256 e) (q : Fin 4) (s : PosShare TreeShare) (V : Vec F S64x256 e) (k : Vec F S64x256 e → Body F) :
    (owns (c : Thread nD τ) (chunk M q) s V : sProp 𝕄) ⊢ iprop((owns (c : Thread nD τ) (chunk M q) s V -∗ run c (k V) Q) -∗ run c (loadC M q k) Q) := by
  unfold owns loadC
  iintro ⟨%f, %hf, H⟩ Hk
  subst hf
  iapply (wp_load_rect 𝒱₀ (c : Thread nD τ) none Set.univ (m := M) (r := chunkR q) (Finset.Subset.refl _)) $$ H
  iintro H
  iapply Hk
  iexists f; isplitr; · (ipureintro; rfl)
  iexact H

theorem slot_set (M : Memref sig .tc .vmem S4x4x64x256 .bf16) (q s : Fin 4) : (slot M q s).view.set = M.view.setOn (slotR q s).set :=
  (Memref.set_view_squeeze _ _).trans (View.set_slice _ _)

/-- A load of a landing slot reads, flattened, what it holds. -/
theorem loadS_rule (c : Dev nD) (Q : PUnit.{1} → sProp 𝕄) (M : Memref sig .tc .vmem S4x4x64x256 .bf16) (q s : Fin 4) (p : PosShare TreeShare) (V : Vec F S64x256 .bf16) (k : Vec F S1x1x64x256 .bf16 → Body F) :
    (owns (c : Thread nD τ) (slot M q s) p V : sProp 𝕄)
      ⊢ iprop((∀ w, ⌜shapeCast S64x256 w shapeCasts_S1x1x64x256_S64x256 = V⌝ -∗ owns (c : Thread nD τ) (slot M q s) p V -∗ run c (k w) Q) -∗ run c (loadS M q s k) Q) := by
  unfold owns loadS
  iintro ⟨%f, %hf, H⟩ Hk
  iapply (wp_load 𝒱₀ (c : Thread nD τ) none Set.univ (m := M) (r := (slotR q s).toLoadRect) (Finset.subset_of_eq (slot_set M q s).symm)) $$ H
  iintro H
  iapply Hk $$ [] [H]
  · ipureintro; exact hf
  iexists f; isplitr; · (ipureintro; exact hf)
  iexact H

/-- A store of a chunk replaces what it holds. -/
theorem storeC_rule (c : Dev nD) (Q : PUnit.{1} → sProp 𝕄) (M : Memref sig .tc .vmem S256x256 .bf16) (hM : M.IsWhole) (q : Fin 4) (V' v : Vec F S64x256 .bf16) (k : Body F) :
    (owns (c : Thread nD τ) (chunk M q) fullShare V' : sProp 𝕄)
      ⊢ iprop((owns (c : Thread nD τ) (chunk M q) fullShare v -∗ run c k Q) -∗ run c (storeC M hM q v k) Q) := by
  unfold owns storeC
  iintro ⟨%f, -, H⟩ Hk
  iapply (wp_store 𝒱₀ (c : Thread nD τ) none Set.univ (m := M) (r := chunkR q) (Mk := Finset.univ) (S := (chunk M q).view.set) (Finset.Subset.refl _)) $$ H
  iintro H
  iapply Hk
  iexists _; isplitr
  · ipureintro; exact View.read_write_univ (v := M.access (chunkR q)) f v
  iexact H
theorem storeO_rule (c : Dev nD) (Q : PUnit.{1} → sProp 𝕄) (q : Fin 4) (V' v : Vec F S64x256 .f32) (k : Body F) :
    (owns (c : Thread nD τ) (chunk oM q) fullShare V' : sProp 𝕄)
      ⊢ iprop((owns (c : Thread nD τ) (chunk oM q) fullShare v -∗ run c k Q) -∗ run c (storeO q v k) Q) := by
  unfold owns storeO
  iintro ⟨%f, -, H⟩ Hk
  iapply (wp_store 𝒱₀ (c : Thread nD τ) none Set.univ (m := oM) (r := chunkR q) (Mk := Finset.univ) (S := (chunk oM q).view.set) (Finset.Subset.refl _)) $$ H
  iintro H
  iapply Hk
  iexists _; isplitr
  · ipureintro; exact View.read_write_univ (v := oM.access (chunkR q)) f v
  iexact H

end Mem

end Cert.AllReduce

end
-- ==== Proof.Stages.lean ====
/-
The stages of the body, chunk by chunk, then over all chunks.
-/
module

public import proofs.«01_k».proof.Proof.Steps
public import Idealize.ShloMosaic.Lib.Pipeline.BigSepL

@[expose] public section

set_option maxRecDepth 65536

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (B : Dev nD → FVec F S256x256 .bf16) (K : Dev nD × CI → ℕ)

/-! ## A step at every chunk -/

/-- A step that turns `S q` into `S' q` and pays the transfers `own q`, taken at every chunk of a list. -/
theorem each_rule (c : Dev nD) (Q : PUnit.{1} → sProp 𝕄) (R : sProp 𝕄) [BI.Persistent R] (f : Fin 4 → Body F → Body F) (S S' : Fin 4 → sProp 𝕄)
    (own : Fin 4 → List X) (P : X → Prop)
    (h : ∀ q k l, (∀ y ∈ l, P y) → iprop(R ∗ S q ∗ ow c (owedX c (own q ++ l)))
      ⊢ iprop(((S' q ∗ ow c (owedX c l)) -∗ run c k Q) -∗ run c (f q k) Q)) (rest : List X) (k : Body F) :
    ∀ ls : List (Fin 4), (∀ y ∈ ls.flatMap own ++ rest, P y) → iprop(R ∗ bigSepL ls S ∗ ow c (owedX c (ls.flatMap own ++ rest)))
      ⊢ iprop(((bigSepL ls S' ∗ ow c (owedX c rest)) -∗ run c k Q) -∗ run c (each f ls k) Q)
  | [], _ => by
    iintro ⟨-, HS, HO⟩ Hk
    iapply Hk
    isplitl [HS]; · iexact HS
    iexact HO
  | q :: ls, hP => by
    rw [bigSepL_cons', bigSepL_cons', List.flatMap_cons, List.append_assoc]
    rw [List.flatMap_cons, List.append_assoc] at hP
    iintro ⟨#HR, ⟨Hq, HS⟩, HO⟩ Hk
    iapply (h q (each f ls k) (ls.flatMap own ++ rest) (fun y hy => hP y (List.mem_append_right _ hy))) $$ [Hq HO]
    · isplitr; · iexact HR
      isplitl [Hq]; · iexact Hq
      iexact HO
    iintro ⟨Hq, HO⟩
    iapply (each_rule c Q R f S S' own P h rest k ls (fun y hy => hP y (List.mem_append_right _ hy))) $$ [HS HO]
    · isplitr; · iexact HR
      isplitl [HS]; · iexact HS
      iexact HO
    iintro ⟨HS, HO⟩
    iapply Hk
    isplitl [Hq HS]
    · isplitl [Hq]; · iexact Hq
      iexact HS
    iexact HO

/-! ## What each stage takes and leaves at a chunk -/

/-- Chunk `q` of a buffer, at a share and a value; and at any value. -/
abbrev at_ {e : EltTy} (c : Dev nD) (M : Memref sig .tc .vmem S256x256 e) (q : Fin 4) (p : PosShare TreeShare) (V : Vec F S64x256 e) : sProp 𝕄 :=
  owns (c : Thread nD τ) (chunk M q) p V
abbrev any_ {e : EltTy} (c : Dev nD) (M : Memref sig .tc .vmem S256x256 e) (q : Fin 4) : sProp 𝕄 :=
  iprop(∃ V, at_ (F := F) c M q fullShare V)

/-- The exchange along x: its source and its way out; -/
def Pre0 (c : Dev nD) (q : Fin 4) : sProp 𝕄 := iprop(at_ c a0 q fullShare (A0 B c q) ∗ sendR c (q, 0))
/-- sent, one half of the source stays. -/
def Post0 (c : Dev nD) (q : Fin 4) : sProp 𝕄 := iprop(at_ c a0 q fullShare.right (A0 B c q) ∗ sentR c (q, 0))
/-- The first sum's needs beside that, -/
def Pre1 (c : Dev nD) (q : Fin 4) : sProp 𝕄 := iprop(recvR c (q, 0) ∗ any_ (F := F) c a1 q ∗ sendR c (q, 1) ∗ sendR c (q, 2) ∗ sendR c (q, 3))
/-- and what it leaves. -/
def Post1 (c : Dev nD) (q : Fin 4) : sProp 𝕄 :=
  iprop(doneR B c (q, 0) ∗ at_ c a1 q fullShare.right.right (A1 B c q) ∗ sentR c (q, 1) ∗ sentR c (q, 2) ∗ sentR c (q, 3))
/-- The second sum's needs and what it leaves. -/
def Pre2 (c : Dev nD) (q : Fin 4) : sProp 𝕄 :=
  iprop((recvR c (q, 3) ∗ recvR c (q, 2) ∗ recvR c (q, 1)) ∗ any_ (F := F) c a2 q ∗ sendR c (q, 4) ∗ sendR c (q, 5) ∗ sendR c (q, 6))
def Post2 (c : Dev nD) (q : Fin 4) : sProp 𝕄 :=
  iprop((doneR B c (q, 3) ∗ doneR B c (q, 2) ∗ doneR B c (q, 1)) ∗ at_ c a2 q fullShare.right.right (A2 B c q) ∗ sentR c (q, 4) ∗ sentR c (q, 5) ∗ sentR c (q, 6))
/-- The last sum's needs and what it leaves. -/
def Pre3 (c : Dev nD) (q : Fin 4) : sProp 𝕄 := iprop((recvR c (q, 6) ∗ recvR c (q, 5) ∗ recvR c (q, 4)) ∗ any_ (F := F) c oM q)
def Post3 (c : Dev nD) (q : Fin 4) : sProp 𝕄 := iprop((doneR B c (q, 6) ∗ doneR B c (q, 5) ∗ doneR B c (q, 4)) ∗ at_ c oM q fullShare (A3 B c q))

/-- The shares of the sources the transfers of a chunk read, and what the awaited ones brought. -/
theorem src_0 (c : Dev nD) (q : Fin 4) : srcR B c (q, 0) = at_ c a0 q fullShare.left (A0 B c q) := rfl
theorem src_1 (c : Dev nD) (q : Fin 4) : srcR B c (q, 1) = at_ c a1 q fullShare.left.left (A1 B c q) := rfl
theorem src_2 (c : Dev nD) (q : Fin 4) : srcR B c (q, 2) = at_ c a1 q fullShare.left.right (A1 B c q) := rfl
theorem src_3 (c : Dev nD) (q : Fin 4) : srcR B c (q, 3) = at_ c a1 q fullShare.right.left (A1 B c q) := rfl
theorem src_4 (c : Dev nD) (q : Fin 4) : srcR B c (q, 4) = at_ c a2 q fullShare.left.left (A2 B c q) := rfl
theorem src_5 (c : Dev nD) (q : Fin 4) : srcR B c (q, 5) = at_ c a2 q fullShare.left.right (A2 B c q) := rfl
theorem src_6 (c : Dev nD) (q : Fin 4) : srcR B c (q, 6) = at_ c a2 q fullShare.right.left (A2 B c q) := rfl
theorem done_0 (c : Dev nD) (q : Fin 4) : doneR B c (q, 0) = iprop(at_ c rx q fullShare (A0 B (sender c (q, 0)) q) ∗ semVal (rCell c (q, 0)) 0) := rfl
theorem done_1 (c : Dev nD) (q : Fin 4) : doneR B c (q, 1) = iprop(owns (c : Thread nD τ) (slot r1 q 3) fullShare (A1 B (sender c (q, 1)) q) ∗ semVal (rCell c (q, 1)) 0) := rfl
theorem done_2 (c : Dev nD) (q : Fin 4) : doneR B c (q, 2) = iprop(owns (c : Thread nD τ) (slot r1 q 2) fullShare (A1 B (sender c (q, 2)) q) ∗ semVal (rCell c (q, 2)) 0) := rfl
theorem done_3 (c : Dev nD) (q : Fin 4) : doneR B c (q, 3) = iprop(owns (c : Thread nD τ) (slot r1 q 1) fullShare (A1 B (sender c (q, 3)) q) ∗ semVal (rCell c (q, 3)) 0) := rfl
theorem done_4 (c : Dev nD) (q : Fin 4) : doneR B c (q, 4) = iprop(owns (c : Thread nD τ) (slot r2 q 3) fullShare (A2 B (sender c (q, 4)) q) ∗ semVal (rCell c (q, 4)) 0) := rfl
theorem done_5 (c : Dev nD) (q : Fin 4) : doneR B c (q, 5) = iprop(owns (c : Thread nD τ) (slot r2 q 2) fullShare (A2 B (sender c (q, 5)) q) ∗ semVal (rCell c (q, 5)) 0) := rfl
theorem done_6 (c : Dev nD) (q : Fin 4) : doneR B c (q, 6) = iprop(owns (c : Thread nD τ) (slot r2 q 1) fullShare (A2 B (sender c (q, 6)) q) ∗ semVal (rCell c (q, 6)) 0) := rfl

/-- A buffer's chunk at the full share is four quarters. -/
theorem quarters (c : Dev nD) (M : Memref sig .tc .vmem S256x256 .bf16) (q : Fin 4) (V : FVec F S64x256 .bf16) :
    at_ c M q fullShare V ⊣⊢ iprop((at_ c M q fullShare.left.left V ∗ at_ c M q fullShare.left.right V) ∗ at_ c M q fullShare.right.left V ∗ at_ c M q fullShare.right.right V) := by
  have h := owns_halves (Val := Elt F) (Ix := Unit) (Name := ℕ) (U := UU) (Lvl := ℕ) (c : Thread nD τ) (chunk M q) fullShare V
  have hl := owns_halves (Val := Elt F) (Ix := Unit) (Name := ℕ) (U := UU) (Lvl := ℕ) (c : Thread nD τ) (chunk M q) fullShare.left V
  have hr := owns_halves (Val := Elt F) (Ix := Unit) (Name := ℕ) (U := UU) (Lvl := ℕ) (c : Thread nD τ) (chunk M q) fullShare.right V
  constructor
  · exact h.1.trans (BI.sep_mono hl.1 hr.1)
  · exact (BI.sep_mono hl.2 hr.2).trans h.2

theorem stage0_rule (c : Dev nD) (q : Fin 4) (k : Body F) (Q : PUnit.{1} → sProp 𝕄) (l : List X) :
    iprop(records B K ∗ Pre0 B c q ∗ ow c (owedX c ([(q, 0)] ++ l)))
      ⊢ iprop(((Post0 B c q ∗ ow c (owedX c l)) -∗ run c k Q) -∗ run c (stage0P c q k) Q) := by
  unfold Pre0 Post0 stage0P
  iintro ⟨#HR, ⟨Ha, Hs⟩, HO⟩ Hk
  ihave Ha := (owns_halves (c : Thread nD τ) (chunk a0 q) fullShare (A0 B c q)).1 $$ Ha
  icases Ha with ⟨Hl, Hr⟩
  iapply (send_rule B K c (q, 0) Q k l) $$ [Hl Hs HO]
  · isplitr; · iexact HR
    isplitl [Hl]; · rw [src_0]; iexact Hl
    isplitl [Hs]; · iexact Hs
    iexact HO
  iintro ⟨Hs, HO⟩
  iapply Hk
  isplitl [Hr Hs]
  · isplitl [Hr] <;> iassumption
  iexact HO

/-- Three sends from one buffer chunk, each reading a quarter of it. -/
theorem sends_rule (c : Dev nD) (M : Memref sig .tc .vmem S256x256 .bf16) (q : Fin 4) (V : FVec F S64x256 .bf16) (x y z : X)
    (hx : srcR B c x = at_ c M q fullShare.left.left V) (hy : srcR B c y = at_ c M q fullShare.left.right V) (hz : srcR B c z = at_ c M q fullShare.right.left V)
    (k : Body F) (Q : PUnit.{1} → sProp 𝕄) (l : List X) :
    iprop(records B K ∗ at_ c M q fullShare V ∗ (sendR c x ∗ sendR c y ∗ sendR c z) ∗ ow c (owedX c ([x, y, z] ++ l)))
      ⊢ iprop(((at_ c M q fullShare.right.right V ∗ (sentR c x ∗ sentR c y ∗ sentR c z) ∗ ow c (owedX c l)) -∗ run c k Q)
          -∗ run c (sendP c x <| sendP c y <| sendP c z k) Q) := by
  iintro ⟨#HR, Ha, ⟨Hx, Hy, Hz⟩, HO⟩ Hk
  ihave Ha := (quarters c M q V).1 $$ Ha
  icases Ha with ⟨⟨H1, H2⟩, H3, H4⟩
  iapply (send_rule B K c x Q _ ([y, z] ++ l)) $$ [H1 Hx HO]
  · isplitr; · iexact HR
    isplitl [H1]; · rw [hx]; iexact H1
    isplitl [Hx]; · iexact Hx
    iexact HO
  iintro ⟨Hx, HO⟩
  iapply (send_rule B K c y Q _ ([z] ++ l)) $$ [H2 Hy HO]
  · isplitr; · iexact HR
    isplitl [H2]; · rw [hy]; iexact H2
    isplitl [Hy]; · iexact Hy
    iexact HO
  iintro ⟨Hy, HO⟩
  iapply (send_rule B K c z Q _ l) $$ [H3 Hz HO]
  · isplitr; · iexact HR
    isplitl [H3]; · rw [hz]; iexact H3
    isplitl [Hz]; · iexact Hz
    iexact HO
  iintro ⟨Hz, HO⟩
  iapply Hk
  isplitl [H4]; · iexact H4
  isplitl [Hx Hy Hz]
  · isplitl [Hx]; · iexact Hx
    isplitl [Hy] <;> iassumption
  iexact HO

/-- Three landings awaited. -/
theorem recvs_rule (c : Dev nD) (x y z : X) (k : Body F) (Q : PUnit.{1} → sProp 𝕄) (l : List X)
    (hx : ∀ w ∈ l, (stg x.2).val < (stg w.2).val) (hy : ∀ w ∈ l, (stg y.2).val < (stg w.2).val) (hz : ∀ w ∈ l, (stg z.2).val < (stg w.2).val) :
    iprop(records B K ∗ (recvR c x ∗ recvR c y ∗ recvR c z) ∗ ow c (owedX c l))
      ⊢ iprop((((doneR B c x ∗ doneR B c y ∗ doneR B c z) ∗ ow c (owedX c l)) -∗ run c k Q) -∗ run c (recvP x <| recvP y <| recvP z k) Q) := by
  iintro ⟨#HR, ⟨Hx, Hy, Hz⟩, HO⟩ Hk
  iapply (recv_rule B K c x Q _ l hx) $$ [Hx HO]
  · isplitr; · iexact HR
    isplitl [Hx] <;> iassumption
  iintro ⟨Hx, HO⟩
  iapply (recv_rule B K c y Q _ l hy) $$ [Hy HO]
  · isplitr; · iexact HR
    isplitl [Hy] <;> iassumption
  iintro ⟨Hy, HO⟩
  iapply (recv_rule B K c z Q _ l hz) $$ [Hz HO]
  · isplitr; · iexact HR
    isplitl [Hz] <;> iassumption
  iintro ⟨Hz, HO⟩
  iapply Hk
  isplitl [Hx Hy Hz]
  · isplitl [Hx]; · iexact Hx
    isplitl [Hy] <;> iassumption
  iexact HO

/-- Three sends awaited: their quarters of the source come back and the buffer's chunk is whole again. -/
theorem drains_rule (c : Dev nD) (M : Memref sig .tc .vmem S256x256 .bf16) (q : Fin 4) (V : FVec F S64x256 .bf16) (x y z : X)
    (hx : srcR B c x = at_ c M q fullShare.left.left V) (hy : srcR B c y = at_ c M q fullShare.left.right V) (hz : srcR B c z = at_ c M q fullShare.right.left V)
    (k : Body F) (Q : PUnit.{1} → sProp 𝕄) :
    iprop(records B K ∗ (at_ c M q fullShare.right.right V ∗ sentR c x ∗ sentR c y ∗ sentR c z) ∗ (posR c x ∗ posR c y ∗ posR c z) ∗ ow c 0)
      ⊢ iprop(((at_ c M q fullShare V ∗ (zeroR c x ∗ zeroR c y ∗ zeroR c z) ∗ ow c 0) -∗ run c k Q)
          -∗ run c (drainP x <| drainP y <| drainP z k) Q) := by
  iintro ⟨#HR, ⟨Ha, Hx, Hy, Hz⟩, ⟨Px, Py, Pz⟩, HO⟩ Hk
  iapply (drain_rule B K c x Q _) $$ [Hx Px HO]
  · isplitr; · iexact HR
    isplitl [Hx]; · iexact Hx
    isplitl [Px] <;> iassumption
  iintro ⟨Hx, Px, HO⟩
  iapply (drain_rule B K c y Q _) $$ [Hy Py HO]
  · isplitr; · iexact HR
    isplitl [Hy]; · iexact Hy
    isplitl [Py] <;> iassumption
  iintro ⟨Hy, Py, HO⟩
  iapply (drain_rule B K c z Q _) $$ [Hz Pz HO]
  · isplitr; · iexact HR
    isplitl [Hz]; · iexact Hz
    isplitl [Pz] <;> iassumption
  iintro ⟨Hz, Pz, HO⟩
  ihave Hx := (Entails.of_eq hx) $$ Hx
  ihave Hy := (Entails.of_eq hy) $$ Hy
  ihave Hz := (Entails.of_eq hz) $$ Hz
  iapply Hk
  isplitl [Ha Hx Hy Hz]
  · iapply (quarters c M q V).2
    isplitl [Hx Hy]; · isplitl [Hx] <;> iassumption
    isplitl [Hz] <;> iassumption
  isplitl [Px Py Pz]
  · isplitl [Px]; · iexact Px
    isplitl [Py] <;> iassumption
  iexact HO

theorem stage1_rule (c : Dev nD) (q : Fin 4) (k : Body F) (Q : PUnit.{1} → sProp 𝕄) (l : List X) (hl : ∀ y ∈ l, 0 < (stg y.2).val) :
    iprop(records B K ∗ (Post0 B c q ∗ Pre1 c q) ∗ ow c (owedX c (own1 q ++ l)))
      ⊢ iprop((((Post0 B c q ∗ Post1 B c q) ∗ ow c (owedX c l)) -∗ run c k Q) -∗ run c (stage1P c q k) Q) := by
  rw [show own1 q = [(q, 1), (q, 2), (q, 3)] from rfl]
  have hl' : ∀ y ∈ [(q, 1), (q, 2), (q, 3)] ++ l, (stg ((q, 0) : X).2).val < (stg y.2).val := fun y hy => by
    rcases List.mem_append.mp hy with h | h
    · exact (show ∀ q, ∀ y ∈ own1 q, (stg ((q, 0) : X).2).val < (stg y.2).val by decide) q y h
    · exact hl y h
  unfold Post0 Pre1 Post1 stage1P
  iintro ⟨#HR, ⟨⟨Ha, Hsx⟩, Hr, ⟨%V, H1⟩, Hs⟩, HO⟩ Hk
  iapply (recv_rule B K c (q, 0) Q _ _ hl') $$ [Hr HO]
  · isplitr; · iexact HR
    isplitl [Hr] <;> iassumption
  iintro ⟨Hd, HO⟩
  ihave Hd := (Entails.of_eq (done_0 B c q)) $$ Hd
  icases Hd with ⟨Hd, Hz⟩
  iapply (loadC_rule c Q a0 q fullShare.right (A0 B c q) _) $$ Ha; iintro Ha
  iapply (loadC_rule c Q rx q fullShare (A0 B (sender c (q, 0)) q) _) $$ Hd; iintro Hd
  iapply (loadC_rule c Q a1 q fullShare V _) $$ H1; iintro H1
  iapply (storeC_rule c Q a1 (Memref.isWhole_whole _) q V _ _) $$ H1; iintro H1
  rw [pay2_eq, show addf (A0 B c q) (A0 B (sender c (q, 0)) q) = A1 B c q from rfl]
  iapply (sends_rule B K c a1 q (A1 B c q) (q, 1) (q, 2) (q, 3) (src_1 B c q) (src_2 B c q) (src_3 B c q) k Q l) $$ [H1 Hs HO]
  · isplitr; · iexact HR
    isplitl [H1]; · iexact H1
    isplitl [Hs] <;> iassumption
  iintro ⟨H1, Hs, HO⟩
  iapply Hk
  isplitr [HO]
  · isplitl [Ha Hsx]; · isplitl [Ha] <;> iassumption
    isplitl [Hd Hz]
    · rw [done_0]; isplitl [Hd] <;> iassumption
    isplitl [H1] <;> iassumption
  iexact HO

theorem stage2_rule (c : Dev nD) (q : Fin 4) (k : Body F) (Q : PUnit.{1} → sProp 𝕄) (l : List X) (hl : ∀ y ∈ l, 1 < (stg y.2).val) :
    iprop(records B K ∗ (Post1 B c q ∗ Pre2 c q) ∗ ow c (owedX c (own2 q ++ l)))
      ⊢ iprop((((Post1 B c q ∗ Post2 B c q) ∗ ow c (owedX c l)) -∗ run c k Q) -∗ run c (stage2P c q k) Q) := by
  rw [show own2 q = [(q, 4), (q, 5), (q, 6)] from rfl]
  have hl' : ∀ y ∈ [(q, 4), (q, 5), (q, 6)] ++ l, (stg 1).val < (stg y.2).val := fun y hy => by
    rcases List.mem_append.mp hy with h | h
    · exact (show ∀ q, ∀ y ∈ own2 q, (stg 1).val < (stg y.2).val by decide) q y h
    · exact hl y h
  unfold Post1 Pre2 Post2 stage2P
  iintro ⟨#HR, ⟨⟨Hd0, Ha, Hsx⟩, Hr, ⟨%V, H1⟩, Hs⟩, HO⟩ Hk
  iapply (recvs_rule B K c (q, 3) (q, 2) (q, 1) _ Q _ hl' hl' hl') $$ [Hr HO]
  · isplitr; · iexact HR
    isplitl [Hr] <;> iassumption
  iintro ⟨Hd, HO⟩
  rw [done_1, done_2, done_3]
  icases Hd with ⟨⟨D3, Z3⟩, ⟨D2, Z2⟩, D1, Z1⟩
  iapply (loadC_rule c Q a1 q fullShare.right.right (A1 B c q) _) $$ Ha; iintro Ha
  iapply (loadS_rule c Q r1 q 1 fullShare _ _) $$ D3; iintro %w3 %h3 D3
  iapply (loadS_rule c Q r1 q 2 fullShare _ _) $$ D2; iintro %w2 %h2 D2
  iapply (loadS_rule c Q r1 q 3 fullShare _ _) $$ D1; iintro %w1 %h1 D1
  iapply (loadC_rule c Q a2 q fullShare V _) $$ H1; iintro H1
  iapply (storeC_rule c Q a2 (Memref.isWhole_whole _) q V _ _) $$ H1; iintro H1
  rw [pay6_eq, h1, h2, h3, show sum4 (A1 B c q) (A1 B (sender c (q, 3)) q) (A1 B (sender c (q, 2)) q) (A1 B (sender c (q, 1)) q) = A2 B c q from rfl]
  iapply (sends_rule B K c a2 q (A2 B c q) (q, 4) (q, 5) (q, 6) (src_4 B c q) (src_5 B c q) (src_6 B c q) k Q l) $$ [H1 Hs HO]
  · isplitr; · iexact HR
    isplitl [H1]; · iexact H1
    isplitl [Hs] <;> iassumption
  iintro ⟨H1, Hs, HO⟩
  iapply Hk
  isplitr [HO]
  · isplitl [Hd0 Ha Hsx]
    · isplitl [Hd0]; · iexact Hd0
      isplitl [Ha] <;> iassumption
    isplitr [H1 Hs]
    · isplitl [D3 Z3]; · isplitl [D3] <;> iassumption
      isplitl [D2 Z2]; · isplitl [D2] <;> iassumption
      isplitl [D1] <;> iassumption
    isplitl [H1] <;> iassumption
  iexact HO

theorem stage3_rule (c : Dev nD) (q : Fin 4) (k : Body F) (Q : PUnit.{1} → sProp 𝕄) (l : List X) (hl : ∀ y ∈ l, 2 < (stg y.2).val) :
    iprop(records B K ∗ (Post2 B c q ∗ Pre3 c q) ∗ ow c (owedX c ([] ++ l)))
      ⊢ iprop((((Post2 B c q ∗ Post3 B c q) ∗ ow c (owedX c l)) -∗ run c k Q) -∗ run c (stage3P q k) Q) := by
  rw [List.nil_append]
  unfold Post2 Pre3 Post3 stage3P
  iintro ⟨#HR, ⟨⟨Hd0, Ha, Hsx⟩, Hr, ⟨%V, H1⟩⟩, HO⟩ Hk
  iapply (recvs_rule B K c (q, 6) (q, 5) (q, 4) _ Q _ hl hl hl) $$ [Hr HO]
  · isplitr; · iexact HR
    isplitl [Hr] <;> iassumption
  iintro ⟨Hd, HO⟩
  rw [done_4, done_5, done_6]
  icases Hd with ⟨⟨D3, Z3⟩, ⟨D2, Z2⟩, D1, Z1⟩
  iapply (loadC_rule c Q a2 q fullShare.right.right (A2 B c q) _) $$ Ha; iintro Ha
  iapply (loadS_rule c Q r2 q 1 fullShare _ _) $$ D3; iintro %w3 %h3 D3
  iapply (loadS_rule c Q r2 q 2 fullShare _ _) $$ D2; iintro %w2 %h2 D2
  iapply (loadS_rule c Q r2 q 3 fullShare _ _) $$ D1; iintro %w1 %h1 D1
  iapply (loadC_rule c Q oM q fullShare V _) $$ H1; iintro H1
  iapply (storeO_rule c Q q V _ _) $$ H1; iintro H1
  rw [pay11_eq, h1, h2, h3]
  iapply Hk
  isplitr [HO]
  · isplitl [Hd0 Ha Hsx]
    · isplitl [Hd0]; · iexact Hd0
      isplitl [Ha] <;> iassumption
    isplitr [H1]
    · isplitl [D3 Z3]; · isplitl [D3] <;> iassumption
      isplitl [D2 Z2]; · isplitl [D2] <;> iassumption
      isplitl [D1] <;> iassumption
    iexact H1
  iexact HO

end Cert.AllReduce

end
-- ==== Proof.Main.lean ====
/-
The part of the body after the barrier.
-/
module

public import proofs.«01_k».proof.Proof.Stages
public import Idealize.ShloMosaic.Lib.Pipeline.BigSepL

@[expose] public section

set_option maxRecDepth 65536

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (B : Dev nD → FVec F S256x256 .bf16) (K : Dev nD × CI → ℕ)

/-! ## The drains, and the part of the body after the barrier -/

/-- The positions at the send cells of one stage of a chunk. -/
def Pos0 (c : Dev nD) (q : Fin 4) : sProp 𝕄 := posR c (q, 0)
def Pos1 (c : Dev nD) (q : Fin 4) : sProp 𝕄 := iprop(posR c (q, 1) ∗ posR c (q, 2) ∗ posR c (q, 3))
def Pos2 (c : Dev nD) (q : Fin 4) : sProp 𝕄 := iprop(posR c (q, 4) ∗ posR c (q, 5) ∗ posR c (q, 6))
/-- What is left of one stage of a chunk once its sends are awaited. -/
def End0 (c : Dev nD) (q : Fin 4) : sProp 𝕄 := iprop(at_ c a0 q fullShare (A0 B c q) ∗ zeroR c (q, 0))
def End1 (c : Dev nD) (q : Fin 4) : sProp 𝕄 := iprop(doneR B c (q, 0) ∗ at_ c a1 q fullShare (A1 B c q) ∗ zeroR c (q, 1) ∗ zeroR c (q, 2) ∗ zeroR c (q, 3))
def End2 (c : Dev nD) (q : Fin 4) : sProp 𝕄 :=
  iprop((doneR B c (q, 3) ∗ doneR B c (q, 2) ∗ doneR B c (q, 1)) ∗ at_ c a2 q fullShare (A2 B c q) ∗ zeroR c (q, 4) ∗ zeroR c (q, 5) ∗ zeroR c (q, 6))

theorem drain0_rule (c : Dev nD) (q : Fin 4) (k : Body F) (Q : PUnit.{1} → sProp 𝕄) (l : List X) (hl : ∀ y ∈ l, False) :
    iprop(records B K ∗ (Post0 B c q ∗ Pos0 c q) ∗ ow c (owedX c ([] ++ l)))
      ⊢ iprop(((End0 B c q ∗ ow c (owedX c l)) -∗ run c k Q) -∗ run c (drain0P q k) Q) := by
  obtain rfl : l = [] := List.eq_nil_iff_forall_not_mem.mpr hl
  rw [List.nil_append, show owedX c [] = 0 from rfl]
  unfold Post0 Pos0 End0 drain0P
  iintro ⟨#HR, ⟨⟨Ha, Hs⟩, Hp⟩, HO⟩ Hk
  iapply (drain_rule B K c (q, 0) Q _) $$ [Hs Hp HO]
  · isplitr; · iexact HR
    isplitl [Hs]; · iexact Hs
    isplitl [Hp] <;> iassumption
  iintro ⟨Hs, Hp, HO⟩
  ihave Hs := (Entails.of_eq (src_0 B c q)) $$ Hs
  iapply Hk
  isplitr [HO]
  · isplitl [Ha Hs]
    · iapply (owns_halves (c : Thread nD τ) (chunk a0 q) fullShare (A0 B c q)).2
      isplitl [Hs] <;> iassumption
    iexact Hp
  iexact HO

theorem drain1_rule (c : Dev nD) (q : Fin 4) (k : Body F) (Q : PUnit.{1} → sProp 𝕄) (l : List X) (hl : ∀ y ∈ l, False) :
    iprop(records B K ∗ (Post1 B c q ∗ Pos1 c q) ∗ ow c (owedX c ([] ++ l)))
      ⊢ iprop(((End1 B c q ∗ ow c (owedX c l)) -∗ run c k Q) -∗ run c (drain1P q k) Q) := by
  obtain rfl : l = [] := List.eq_nil_iff_forall_not_mem.mpr hl
  rw [List.nil_append, show owedX c [] = 0 from rfl]
  unfold Post1 Pos1 End1 drain1P
  iintro ⟨#HR, ⟨⟨Hd, Hs⟩, Hp⟩, HO⟩ Hk
  iapply (drains_rule B K c a1 q (A1 B c q) (q, 1) (q, 2) (q, 3) (src_1 B c q) (src_2 B c q) (src_3 B c q) k Q) $$ [Hs Hp HO]
  · isplitr; · iexact HR
    isplitl [Hs]; · iexact Hs
    isplitl [Hp] <;> iassumption
  iintro ⟨Hs, Hp, HO⟩
  iapply Hk
  isplitr [HO]
  · isplitl [Hd]; · iexact Hd
    isplitl [Hs] <;> iassumption
  iexact HO

theorem drain2_rule (c : Dev nD) (q : Fin 4) (k : Body F) (Q : PUnit.{1} → sProp 𝕄) (l : List X) (hl : ∀ y ∈ l, False) :
    iprop(records B K ∗ (Post2 B c q ∗ Pos2 c q) ∗ ow c (owedX c ([] ++ l)))
      ⊢ iprop(((End2 B c q ∗ ow c (owedX c l)) -∗ run c k Q) -∗ run c (drain2P q k) Q) := by
  obtain rfl : l = [] := List.eq_nil_iff_forall_not_mem.mpr hl
  rw [List.nil_append, show owedX c [] = 0 from rfl]
  unfold Post2 Pos2 End2 drain2P
  iintro ⟨#HR, ⟨⟨Hd, Hs⟩, Hp⟩, HO⟩ Hk
  iapply (drains_rule B K c a2 q (A2 B c q) (q, 4) (q, 5) (q, 6) (src_4 B c q) (src_5 B c q) (src_6 B c q) k Q) $$ [Hs Hp HO]
  · isplitr; · iexact HR
    isplitl [Hs]; · iexact Hs
    isplitl [Hp] <;> iassumption
  iintro ⟨Hs, Hp, HO⟩
  iapply Hk
  isplitr [HO]
  · isplitl [Hd]; · iexact Hd
    isplitl [Hs] <;> iassumption
  iexact HO

/-- Something of every chunk, in the order they are taken in; and of two things of every chunk, one after the other. -/
theorem ordered (Φ : Fin 4 → sProp 𝕄) : bigSep Finset.univ Φ = bigSepL order Φ := bigSep_univ_eq_bigSepL order (by decide) (by decide) Φ
theorem ordered_sep (Φ Ψ : Fin 4 → sProp 𝕄) : bigSepL order (fun q => iprop(Φ q ∗ Ψ q)) = iprop(bigSepL order Φ ∗ bigSepL order Ψ) := by
  rw [← ordered, ← ordered, ← ordered, bigSep_sep']

/-- What a device holds of chunk `q` when the barrier has let it through, and when it is done. -/
def Begin (c : Dev nD) (q : Fin 4) : sProp 𝕄 :=
  iprop((Pre0 B c q ∗ Pre1 c q ∗ Pre2 c q ∗ Pre3 c q) ∗ Pos0 c q ∗ Pos1 c q ∗ Pos2 c q)
def Finish (c : Dev nD) (q : Fin 4) : sProp 𝕄 := iprop(End0 B c q ∗ End1 B c q ∗ End2 B c q ∗ Post3 B c q)

theorem begin_split (c : Dev nD) : bigSep Finset.univ (Begin B c)
    = iprop((bigSepL order (Pre0 B c) ∗ bigSepL order (Pre1 c) ∗ bigSepL order (Pre2 c) ∗ bigSepL order (Pre3 c))
        ∗ bigSepL order (Pos0 c) ∗ bigSepL order (Pos1 c) ∗ bigSepL order (Pos2 c)) := by
  unfold Begin
  rw [bigSep_sep', bigSep_sep', bigSep_sep', bigSep_sep', bigSep_sep', bigSep_sep']
  simp only [ordered]
theorem finish_split (c : Dev nD) : bigSep Finset.univ (Finish B c)
    = iprop(bigSepL order (End0 B c) ∗ bigSepL order (End1 B c) ∗ bigSepL order (End2 B c) ∗ bigSepL order (Post3 B c)) := by
  unfold Finish
  rw [bigSep_sep', bigSep_sep', bigSep_sep']
  simp only [ordered]

/-- The end of the body. -/
theorem ret_rule (c : Dev nD) (Q : PUnit.{1} → sProp 𝕄) : Q ⟨⟩ ⊢ run (F := F) c (.ret ⟨⟩) Q := by
  unfold run; rw [wp_ret]; exact fupd_intro

/-- From the barrier to the end: every chunk is exchanged, summed twice more and stored, and every send awaited. -/
theorem main_rule (c : Dev nD) (Q : PUnit.{1} → sProp 𝕄) :
    iprop(records B K ∗ bigSep Finset.univ (Begin B c) ∗ ow c (owedX c all0))
      ⊢ iprop(((bigSep Finset.univ (Finish B c) ∗ ow c 0) -∗ Q ⟨⟩) -∗ run c (mainP c) Q) := by
  rw [begin_split, finish_split]
  unfold mainP
  iintro ⟨#HR, ⟨⟨H0, H1, H2, H3⟩, P0, P1, P2⟩, HO⟩ Hk
  iapply (each_rule c Q (records B K) (stage0P c) (Pre0 B c) (Post0 B c) (fun q => [(q, 0)]) (fun _ => True)
    (fun q k l _ => stage0_rule B K c q k Q l) all1 _ order (fun _ _ => trivial)) $$ [H0 HO]
  · isplitr; · iexact HR
    isplitl [H0]; · iexact H0
    iexact HO
  iintro ⟨H0, HO⟩
  iapply (each_rule c Q (records B K) (stage1P c) (fun q => iprop(Post0 B c q ∗ Pre1 c q)) (fun q => iprop(Post0 B c q ∗ Post1 B c q)) own1 (fun y => 0 < (stg y.2).val)
    (fun q k l hl => stage1_rule B K c q k Q l hl) all2 _ order (by decide)) $$ [H0 H1 HO]
  · isplitr; · iexact HR
    isplitl [H0 H1]
    · rw [ordered_sep]
      isplitl [H0] <;> iassumption
    iexact HO
  rw [ordered_sep]
  iintro ⟨⟨H0, H1⟩, HO⟩
  iapply (each_rule c Q (records B K) (stage2P c) (fun q => iprop(Post1 B c q ∗ Pre2 c q)) (fun q => iprop(Post1 B c q ∗ Post2 B c q)) own2 (fun y => 1 < (stg y.2).val)
    (fun q k l hl => stage2_rule B K c q k Q l hl) [] _ order (by decide)) $$ [H1 H2 HO]
  · isplitr; · iexact HR
    isplitl [H1 H2]
    · rw [ordered_sep]
      isplitl [H1] <;> iassumption
    iexact HO
  rw [ordered_sep]
  iintro ⟨⟨H1, H2⟩, HO⟩
  iapply (each_rule c Q (records B K) stage3P (fun q => iprop(Post2 B c q ∗ Pre3 c q)) (fun q => iprop(Post2 B c q ∗ Post3 B c q)) (fun _ => []) (fun y => 2 < (stg y.2).val)
    (fun q k l hl => stage3_rule B K c q k Q l hl) [] _ order (by decide)) $$ [H2 H3 HO]
  · isplitr; · iexact HR
    isplitl [H2 H3]
    · rw [ordered_sep]
      isplitl [H2] <;> iassumption
    iexact HO
  rw [ordered_sep]
  iintro ⟨⟨H2, H3⟩, HO⟩
  iapply (each_rule c Q (records B K) drain0P (fun q => iprop(Post0 B c q ∗ Pos0 c q)) (End0 B c) (fun _ => []) (fun _ => False)
    (fun q k l hl => drain0_rule B K c q k Q l hl) [] _ order (by decide)) $$ [H0 P0 HO]
  · isplitr; · iexact HR
    isplitl [H0 P0]
    · rw [ordered_sep]
      isplitl [H0] <;> iassumption
    iexact HO
  iintro ⟨H0, HO⟩
  iapply (each_rule c Q (records B K) drain1P (fun q => iprop(Post1 B c q ∗ Pos1 c q)) (End1 B c) (fun _ => []) (fun _ => False)
    (fun q k l hl => drain1_rule B K c q k Q l hl) [] _ order (by decide)) $$ [H1 P1 HO]
  · isplitr; · iexact HR
    isplitl [H1 P1]
    · rw [ordered_sep]
      isplitl [H1] <;> iassumption
    iexact HO
  iintro ⟨H1, HO⟩
  iapply (each_rule c Q (records B K) drain2P (fun q => iprop(Post2 B c q ∗ Pos2 c q)) (End2 B c) (fun _ => []) (fun _ => False)
    (fun q k l hl => drain2_rule B K c q k Q l hl) [] _ order (by decide)) $$ [H2 P2 HO]
  · isplitr; · iexact HR
    isplitl [H2 P2]
    · rw [ordered_sep]
      isplitl [H2] <;> iassumption
    iexact HO
  iintro ⟨H2, HO⟩
  ihave HO := (Entails.of_eq (congrArg (ow (F := F) c) (show owedX c [] = 0 from rfl))) $$ HO
  iapply (ret_rule c Q)
  iapply Hk
  isplitr [HO]
  · isplitl [H0]; · iexact H0
    isplitl [H1]; · iexact H1
    isplitl [H2] <;> iassumption
  iexact HO

end Cert.AllReduce

end
-- ==== Proof.Buffers.lean ====
/-
The buffers in pieces: a 256-row buffer in four chunks, a landing buffer in sixteen slots, and the result put together.
-/
module

public import proofs.«01_k».proof.Proof.Main
public import Idealize.ShloMosaic.Lib.Ring
public import Idealize.ShloMosaic.Lib.Exec.Geometry
public import Idealize.ShloMosaic.Lib.Pipeline.BigSepL

@[expose] public section

set_option maxRecDepth 65536

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A 256-row buffer in chunks -/

theorem chunk_set {e : EltTy} (M : Memref sig .tc .vmem S256x256 e) (q : Fin 4) : (chunk M q).view.set = M.view.setOn (chunkR q).set := View.set_slice _ _

theorem chunk_disjoint {e : EltTy} (M : Memref sig .tc .vmem S256x256 e) (q q' : Fin 4) (h : q ≠ q') :
    Disjoint (M.view.setOn (chunkR q).set) (M.view.setOn (chunkR q').set) := by
  refine View.disjoint_setOn _ (Rect.unit_disjoint 0 ?_)
  revert q q' h; decide

/-- The chunk a row is in. -/
abbrev chunkOf (y : S256x256.Idx) : Fin 4 := ⟨(y 0).val / 64, by have : (y 0).val < 256 := (y 0).isLt; omega⟩
theorem rowOff_eq (q : Fin 4) : rowOff q = 64 * q.val := by revert q; decide
theorem mem_chunk (y : S256x256.Idx) : y ∈ (chunkR (chunkOf y)).set := by
  rw [Rect.mem_set_unit]
  have h0 : (y 0).val < 256 := (y 0).isLt
  have h1 : (y 1).val < 256 := (y 1).isLt
  refine Fin.forall_fin_two.mpr ⟨?_, ?_⟩
  · show rowOff (chunkOf y) ≤ (y 0).val ∧ (y 0).val < rowOff (chunkOf y) + 64
    rw [rowOff_eq]; show 64 * ((y 0).val / 64) ≤ (y 0).val ∧ (y 0).val < 64 * ((y 0).val / 64) + 64
    omega
  · exact ⟨Nat.zero_le _, by show (y 1).val < 0 + 256; omega⟩

theorem chunk_cover {e : EltTy} (M : Memref sig .tc .vmem S256x256 e) : Finset.univ.biUnion (fun q : Fin 4 => M.view.setOn (chunkR q).set) = M.view.set := by
  refine Finset.Subset.antisymm (Finset.biUnion_subset.mpr fun q _ => View.setOn_subset_set _ _) fun i hi => ?_
  obtain ⟨y, rfl⟩ := View.exists_emb_of_mem_set _ hi
  exact Finset.mem_biUnion.mpr ⟨chunkOf y, Finset.mem_univ _, (View.mem_setOn _).mpr (mem_chunk y)⟩

section Chunks
variable {e : EltTy} (c : Dev nD) (M : Memref sig .tc .vmem S256x256 e)

/-- A buffer held whole is held chunk by chunk; -/
theorem chunks_eq (f : Buf (Elt F) (M.view.loc (c : Thread nD τ))) :
    (M.view.loc (c : Thread nD τ) ↦[M.view.set]{fullShare} f : sProp 𝕄)
      = bigSep Finset.univ fun q : Fin 4 => M.view.loc (c : Thread nD τ) ↦[M.view.setOn (chunkR q).set]{fullShare} f :=
  Ring.pointsTo_sub_blocks _ (chunk_disjoint M) _ (chunk_cover M) f
theorem chunk_at (q : Fin 4) (f : Buf (Elt F) (M.view.loc (c : Thread nD τ))) :
    (M.view.loc (c : Thread nD τ) ↦[M.view.setOn (chunkR q).set]{fullShare} f : sProp 𝕄) ⊢ at_ c M q fullShare ((chunk M q).view.read (Elt F) f) := by
  rw [← chunk_set]; exact owns_intro (c : Thread nD τ) (chunk M q) fullShare f
theorem chunks_split (f : Buf (Elt F) (M.view.loc (c : Thread nD τ))) :
    (M.view.loc (c : Thread nD τ) ↦[M.view.set]{fullShare} f : sProp 𝕄) ⊢ bigSep Finset.univ fun q : Fin 4 => at_ c M q fullShare ((chunk M q).view.read (Elt F) f) := by
  rw [chunks_eq]; exact bigSep_mono fun q _ => chunk_at c M q f
theorem chunks_any : (iprop(∃ f, M.view.loc (c : Thread nD τ) ↦[M.view.set]{fullShare} f) : sProp 𝕄) ⊢ bigSep Finset.univ fun q : Fin 4 => any_ (F := F) c M q := by
  iintro ⟨%f, H⟩
  iapply ((chunks_split c M f).trans (bigSep_mono fun q _ => show _ ⊢ any_ (F := F) c M q from by iintro H; iexists _; iexact H))
  iexact H
theorem chunk_pts (q : Fin 4) : any_ (F := F) c M q ⊢ (iprop(∃ f, M.view.loc (c : Thread nD τ) ↦[M.view.setOn (chunkR q).set]{fullShare} f) : sProp 𝕄) := by
  unfold any_ at_ owns
  rw [chunk_set]
  iintro ⟨%V, %f, -, H⟩
  iexists f; iexact H
/-- and chunks at any contents join. -/
theorem chunks_join (f₀ : Buf (Elt F) (M.view.loc (c : Thread nD τ))) : (bigSep Finset.univ fun q : Fin 4 => any_ (F := F) c M q)
    ⊢ (iprop(∃ f, M.view.loc (c : Thread nD τ) ↦[M.view.set]{fullShare} f) : sProp 𝕄) := by
  exact (bigSep_mono fun q _ => chunk_pts c M q).trans
    (Ring.pointsTo_sub_blocks_join_exists (ℓ := M.view.loc (c : Thread nD τ)) (q := fullShare) (fun q : Fin 4 => M.view.setOn (chunkR q).set) (chunk_disjoint M) _ (chunk_cover M) f₀)
end Chunks

/-! ## A landing buffer in slots -/

/-- Slot `s` of chunk `q`, at any value. -/
abbrev anyS (c : Dev nD) (M : Memref sig .tc .vmem S4x4x64x256 .bf16) (x : Fin 4 × Fin 4) : sProp 𝕄 :=
  iprop(∃ V : FVec F S64x256 .bf16, owns (c : Thread nD τ) (slot M x.1 x.2) fullShare V)

theorem slot_disjoint (M : Memref sig .tc .vmem S4x4x64x256 .bf16) (x x' : Fin 4 × Fin 4) (h : x ≠ x') :
    Disjoint (M.view.setOn (slotR x.1 x.2).set) (M.view.setOn (slotR x'.1 x'.2).set) := by
  refine View.disjoint_setOn _ ?_
  by_cases h1 : x.1 = x'.1
  · have h2 : x.2 ≠ x'.2 := fun h2 => h (Prod.ext h1 h2)
    refine Rect.unit_disjoint 1 ?_
    show x.2.val + 1 ≤ x'.2.val ∨ x'.2.val + 1 ≤ x.2.val
    have := Fin.val_ne_iff.mpr h2; omega
  · refine Rect.unit_disjoint 0 ?_
    show x.1.val + 1 ≤ x'.1.val ∨ x'.1.val + 1 ≤ x.1.val
    have := Fin.val_ne_iff.mpr h1; omega

theorem slot_cover (M : Memref sig .tc .vmem S4x4x64x256 .bf16) :
    Finset.univ.biUnion (fun x : Fin 4 × Fin 4 => M.view.setOn (slotR x.1 x.2).set) = M.view.set := by
  refine Finset.Subset.antisymm (Finset.biUnion_subset.mpr fun q _ => View.setOn_subset_set _ _) fun i hi => ?_
  obtain ⟨y, rfl⟩ := View.exists_emb_of_mem_set _ hi
  refine Finset.mem_biUnion.mpr ⟨(y 0, y 1), Finset.mem_univ _, (View.mem_setOn _).mpr ?_⟩
  rw [Rect.mem_set_unit]
  have h2 : (y 2).val < 64 := (y 2).isLt
  have h3 : (y 3).val < 256 := (y 3).isLt
  intro a; fin_cases a
  · exact ⟨Nat.le_refl _, Nat.lt_succ_self _⟩
  · exact ⟨Nat.le_refl _, Nat.lt_succ_self _⟩
  · exact ⟨Nat.zero_le _, by show (y 2).val < 0 + 64; omega⟩
  · exact ⟨Nat.zero_le _, by show (y 3).val < 0 + 256; omega⟩

section Slots
variable (c : Dev nD) (M : Memref sig .tc .vmem S4x4x64x256 .bf16)

theorem slot_of_pts (x : Fin 4 × Fin 4) (f : Buf (Elt F) (M.view.loc (c : Thread nD τ))) :
    (M.view.loc (c : Thread nD τ) ↦[M.view.setOn (slotR x.1 x.2).set]{fullShare} f : sProp 𝕄) ⊢ anyS (F := F) c M x := by
  rw [← slot_set]
  iintro H; iexists _
  iapply (owns_intro (c : Thread nD τ) (slot M x.1 x.2) fullShare f); iexact H
theorem slot_pts (x : Fin 4 × Fin 4) :
    anyS (F := F) c M x ⊢ (iprop(∃ f, M.view.loc (c : Thread nD τ) ↦[M.view.setOn (slotR x.1 x.2).set]{fullShare} f) : sProp 𝕄) := by
  unfold anyS owns
  rw [slot_set]
  iintro ⟨%V, %f, -, H⟩
  iexists f; iexact H
/-- A landing buffer held whole is held slot by slot; -/
theorem slots_any : (iprop(∃ f, M.view.loc (c : Thread nD τ) ↦[M.view.set]{fullShare} f) : sProp 𝕄) ⊢ bigSep Finset.univ fun x : Fin 4 × Fin 4 => anyS (F := F) c M x := by
  iintro ⟨%f, H⟩
  ihave H := (Entails.of_eq (Ring.pointsTo_sub_blocks (fun x : Fin 4 × Fin 4 => M.view.setOn (slotR x.1 x.2).set) (slot_disjoint M) _ (slot_cover M) f)) $$ H
  iapply (show (bigSep Finset.univ fun x : Fin 4 × Fin 4 => (M.view.loc (c : Thread nD τ) ↦[M.view.setOn (slotR x.1 x.2).set]{fullShare} f : sProp 𝕄))
    ⊢ bigSep Finset.univ fun x : Fin 4 × Fin 4 => anyS (F := F) c M x from bigSep_mono fun x _ => slot_of_pts c M x f)
  iexact H
/-- and slots at any contents join. -/
theorem slots_join (f₀ : Buf (Elt F) (M.view.loc (c : Thread nD τ))) : (bigSep Finset.univ fun x : Fin 4 × Fin 4 => anyS (F := F) c M x)
    ⊢ (iprop(∃ f, M.view.loc (c : Thread nD τ) ↦[M.view.set]{fullShare} f) : sProp 𝕄) :=
  (bigSep_mono fun x _ => slot_pts c M x).trans
    (Ring.pointsTo_sub_blocks_join_exists (ℓ := M.view.loc (c : Thread nD τ)) (q := fullShare) (fun x : Fin 4 × Fin 4 => M.view.setOn (slotR x.1 x.2).set) (slot_disjoint M) _ (slot_cover M) f₀)
end Slots

/-! ## The result -/

/-- The result on device `c`: chunk by chunk the sum over the mesh. -/
def outOf (B : Dev nD → FVec F S256x256 .bf16) (c : Dev nD) : FVec F S256x256 .f32 := fun y =>
  A3 B c (chunkOf y) (fun a => match a with
    | ⟨0, _⟩ => ⟨(y 0).val % 64, Nat.mod_lt _ (by decide)⟩
    | ⟨1, _⟩ => y 1)

theorem outOf_emb (B : Dev nD → FVec F S256x256 .bf16) (c : Dev nD) (q : Fin 4) (j : S64x256.Idx) : outOf B c ((chunkR q).emb j) = A3 B c q j := by
  have h0 : (j 0).val < 64 := (j 0).isLt
  have e0 : ((chunkR q).emb j 0).val = 64 * q.val + (j 0).val := by
    show rowOff q + 1 * (j 0).val = _
    rw [rowOff_eq, Nat.one_mul]
  have e1 : ((chunkR q).emb j 1).val = (j 1).val := by
    show 0 + 1 * (j 1).val = _
    omega
  have hq : chunkOf ((chunkR q).emb j) = q := Fin.ext (by show ((chunkR q).emb j 0).val / 64 = q.val; omega)
  unfold outOf
  rw [hq]
  refine congrArg _ (funext fun a => ?_)
  match a with
  | ⟨0, _⟩ => exact Fin.ext (by show ((chunkR q).emb j 0).val % 64 = (j 0).val; omega)
  | ⟨1, _⟩ => exact Fin.ext e1

theorem out_chunk (B : Dev nD → FVec F S256x256 .bf16) (c : Dev nD) (q : Fin 4) : at_ c oM q fullShare (A3 B c q)
    ⊢ (oM.view.loc (c : Thread nD τ) ↦[oM.view.setOn (chunkR q).set]{fullShare} outOf B c : sProp 𝕄) := by
  unfold at_ owns
  iintro ⟨%f, %hf, H⟩
  have e : (oM.view.loc (c : Thread nD τ) ↦[oM.view.setOn (chunkR q).set]{fullShare} f : sProp 𝕄)
      = oM.view.loc (c : Thread nD τ) ↦[oM.view.setOn (chunkR q).set]{fullShare} outOf B c := by
    refine pointsTo_congr fun i hi => ?_
    rw [← chunk_set] at hi
    obtain ⟨j, rfl⟩ := View.exists_emb_of_mem_set _ hi
    exact (congrFun hf j).trans (outOf_emb B c q j).symm
  iapply (Entails.of_eq e)
  rw [← chunk_set]
  iexact H
/-- Chunks of the result's buffer holding the sums are that buffer holding the result. -/
theorem out_join (B : Dev nD → FVec F S256x256 .bf16) (c : Dev nD) : (bigSep Finset.univ fun q : Fin 4 => at_ c oM q fullShare (A3 B c q))
    ⊢ (oM.view.loc (c : Thread nD τ) ↦[oM.view.set]{fullShare} outOf B c : sProp 𝕄) := by
  rw [chunks_eq c oM (outOf B c)]
  exact bigSep_mono fun q _ => out_chunk B c q

end Cert.AllReduce

end
-- ==== Proof.Body.lean ====
/-
The handshake, the copy of the argument and the whole body.
-/
module

public import proofs.«01_k».proof.Proof.Buffers
public import Idealize.ShloMosaic.Lib.Ring
public import Idealize.ShloMosaic.Lib.Exec.Geometry
public import Idealize.ShloMosaic.Lib.Pipeline.BigSepL

@[expose] public section

set_option maxRecDepth 65536

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (B : Dev nD → FVec F S256x256 .bf16) (K : Dev nD × CI → ℕ)

/-! ## Landing places -/

/-- Where transfer `x` lands at `c`, at any value. -/
def landR (c : Dev nD) (x : X) : sProp 𝕄 := iprop(∃ V : FVec F S64x256 .bf16, owns (c : Thread nD τ) (dstM x) fullShare V)

theorem fin4_eq (Φ : Fin 4 → sProp 𝕄) : bigSep Finset.univ Φ = iprop(Φ 0 ∗ Φ 1 ∗ Φ 2 ∗ Φ 3) := bigSep_univ_eq_bigSepL [0, 1, 2, 3] (by decide) (by decide) Φ
theorem fin7_eq (Φ : Fin 7 → sProp 𝕄) : bigSep Finset.univ Φ = bigSepL dirs Φ := bigSep_univ_eq_bigSepL dirs (by decide) (by decide) Φ
/-- Something of every transfer, chunk by chunk. -/
theorem perX (Φ : X → sProp 𝕄) : bigSep Finset.univ Φ
    = bigSep Finset.univ fun q : Fin 4 => iprop(Φ (q, 0) ∗ Φ (q, 1) ∗ Φ (q, 2) ∗ Φ (q, 3) ∗ Φ (q, 4) ∗ Φ (q, 5) ∗ Φ (q, 6)) := by
  rw [bigSep_univ_prod]
  exact bigSep_congr fun q _ => fin7_eq fun t => Φ (q, t)

/-- The landing places of one chunk and the two slots nothing lands in. -/
def Spare (c : Dev nD) (q : Fin 4) : sProp 𝕄 := iprop(anyS (F := F) c r1 (q, 0) ∗ anyS (F := F) c r2 (q, 0))
def Lands (c : Dev nD) (q : Fin 4) : sProp 𝕄 :=
  iprop(landR (F := F) c (q, 0) ∗ landR (F := F) c (q, 1) ∗ landR (F := F) c (q, 2) ∗ landR (F := F) c (q, 3) ∗ landR (F := F) c (q, 4) ∗ landR (F := F) c (q, 5) ∗ landR (F := F) c (q, 6))

abbrev slots4 (c : Dev nD) (M : Memref sig .tc .vmem S4x4x64x256 .bf16) (q : Fin 4) : sProp 𝕄 :=
  iprop(anyS (F := F) c M (q, 0) ∗ anyS (F := F) c M (q, 1) ∗ anyS (F := F) c M (q, 2) ∗ anyS (F := F) c M (q, 3))
theorem slots4_eq (c : Dev nD) (M : Memref sig .tc .vmem S4x4x64x256 .bf16) :
    (bigSep Finset.univ fun x : Fin 4 × Fin 4 => anyS (F := F) c M x) = bigSep Finset.univ fun q : Fin 4 => slots4 (F := F) c M q := by
  rw [bigSep_univ_prod]
  exact bigSep_congr fun q _ => fin4_eq fun s => anyS (F := F) c M (q, s)

theorem land_x (c : Dev nD) (q : Fin 4) : landR (F := F) c (q, 0) = any_ (F := F) c rx q := rfl
theorem land_1 (c : Dev nD) (q : Fin 4) : landR (F := F) c (q, 1) = anyS (F := F) c r1 (q, 3) := rfl
theorem land_2 (c : Dev nD) (q : Fin 4) : landR (F := F) c (q, 2) = anyS (F := F) c r1 (q, 2) := rfl
theorem land_3 (c : Dev nD) (q : Fin 4) : landR (F := F) c (q, 3) = anyS (F := F) c r1 (q, 1) := rfl
theorem land_4 (c : Dev nD) (q : Fin 4) : landR (F := F) c (q, 4) = anyS (F := F) c r2 (q, 3) := rfl
theorem land_5 (c : Dev nD) (q : Fin 4) : landR (F := F) c (q, 5) = anyS (F := F) c r2 (q, 2) := rfl
theorem land_6 (c : Dev nD) (q : Fin 4) : landR (F := F) c (q, 6) = anyS (F := F) c r2 (q, 1) := rfl

theorem lands_of (c : Dev nD) (q : Fin 4) : iprop(any_ (F := F) c rx q ∗ slots4 (F := F) c r1 q ∗ slots4 (F := F) c r2 q) ⊢ iprop(Lands (F := F) c q ∗ Spare (F := F) c q) := by
  unfold Lands Spare
  rw [land_x, land_1, land_2, land_3, land_4, land_5, land_6]
  iintro ⟨H0, ⟨A0, A1, A2, A3⟩, B0, B1, B2, B3⟩
  isplitr [A0 B0]
  · isplitl [H0]; · iexact H0
    isplitl [A3]; · iexact A3
    isplitl [A2]; · iexact A2
    isplitl [A1]; · iexact A1
    isplitl [B3]; · iexact B3
    isplitl [B2]; · iexact B2
    iexact B1
  isplitl [A0]; · iexact A0
  iexact B0
theorem of_lands (c : Dev nD) (q : Fin 4) : iprop(Lands (F := F) c q ∗ Spare (F := F) c q) ⊢ iprop(any_ (F := F) c rx q ∗ slots4 (F := F) c r1 q ∗ slots4 (F := F) c r2 q) := by
  unfold Lands Spare
  rw [land_x, land_1, land_2, land_3, land_4, land_5, land_6]
  iintro ⟨⟨H0, A3, A2, A1, B3, B2, B1⟩, A0, B0⟩
  isplitl [H0]; · iexact H0
  isplitl [A0 A1 A2 A3]
  · isplitl [A0]; · iexact A0
    isplitl [A1]; · iexact A1
    isplitl [A2]; · iexact A2
    iexact A3
  isplitl [B0]; · iexact B0
  isplitl [B1]; · iexact B1
  isplitl [B2]; · iexact B2
  iexact B3

/-- A buffer held whole at some contents. -/
abbrev wholeOf {e : EltTy} {s : Shape} (c : Dev nD) (M : Memref sig .tc .vmem s e) : sProp 𝕄 :=
  iprop(∃ f : Buf (Elt F) (M.view.loc (c : Thread nD τ)), M.view.loc (c : Thread nD τ) ↦[M.view.set]{fullShare} f)

/-- The three landing buffers are all the landing places and the spare slots; -/
theorem landing_split (c : Dev nD) : iprop(wholeOf (F := F) c rx ∗ wholeOf (F := F) c r1 ∗ wholeOf (F := F) c r2)
    ⊢ iprop(bigSep Finset.univ (landR (F := F) c) ∗ bigSep Finset.univ (Spare (F := F) c)) := by
  rw [perX, show (fun q : Fin 4 => iprop(landR (F := F) c (q, 0) ∗ landR (F := F) c (q, 1) ∗ landR (F := F) c (q, 2) ∗ landR (F := F) c (q, 3) ∗ landR (F := F) c (q, 4)
    ∗ landR (F := F) c (q, 5) ∗ landR (F := F) c (q, 6))) = Lands (F := F) c from rfl, ← bigSep_sep']
  have h := bigSep_mono (s := Finset.univ) fun q _ => lands_of (F := F) c q
  rw [bigSep_sep', bigSep_sep', ← slots4_eq, ← slots4_eq] at h
  exact (BI.sep_mono (chunks_any c rx) (BI.sep_mono (slots_any c r1) (slots_any c r2))).trans h
/-- and back. -/
theorem landing_join (c : Dev nD) (f₀ : Buf (Elt F) (rx.view.loc (c : Thread nD τ))) (f₁ : Buf (Elt F) (r1.view.loc (c : Thread nD τ)))
    (f₂ : Buf (Elt F) (r2.view.loc (c : Thread nD τ))) : iprop(bigSep Finset.univ (landR (F := F) c) ∗ bigSep Finset.univ (Spare (F := F) c))
    ⊢ iprop(wholeOf (F := F) c rx ∗ wholeOf (F := F) c r1 ∗ wholeOf (F := F) c r2) := by
  rw [perX, show (fun q : Fin 4 => iprop(landR (F := F) c (q, 0) ∗ landR (F := F) c (q, 1) ∗ landR (F := F) c (q, 2) ∗ landR (F := F) c (q, 3) ∗ landR (F := F) c (q, 4)
    ∗ landR (F := F) c (q, 5) ∗ landR (F := F) c (q, 6))) = Lands (F := F) c from rfl]
  have h := bigSep_mono (s := Finset.univ) fun q _ => of_lands (F := F) c q
  rw [bigSep_sep', bigSep_sep', bigSep_sep', ← slots4_eq, ← slots4_eq] at h
  exact h.trans (BI.sep_mono (chunks_join c rx f₀) (BI.sep_mono (slots_join c r1 f₁) (slots_join c r2 f₂)))

/-! ## The handshake -/

/-- What device `c` needs for its signal in direction `k`: the duty's token, and its own landing places for the transfers
    that come from there. -/
def handR (c : Dev nD) (k : Fin 7) : sProp 𝕄 := bigSep (Finset.univ.filter fun x : X => kind x = opp k) (landR (F := F) c)
def sigR (c : Dev nD) (k : Fin 7) : sProp 𝕄 := iprop(dutyTok ER (bCell (move c k)) 0 (opp k) ∗ handR (F := F) c k)

def oppE : Fin 7 ≃ Fin 7 := ⟨opp, opp, opp_opp, opp_opp⟩
theorem hands_eq (c : Dev nD) : bigSep Finset.univ (landR (F := F) c) = bigSep Finset.univ (handR (F := F) c) := by
  rw [bigSep_fiberwise Finset.univ kind, show Finset.univ.image kind = (Finset.univ : Finset (Fin 7)) from by decide,
    bigSep_univ_equiv oppE]
  rfl

theorem wp_signal_named (c n : Dev nD) (k : Fin 7) (hn : n = move c k) (P : Body F) (Q : PUnit.{1} → sProp 𝕄) (O : CellTallies nD τ sig Unit) (l : List (Fin 7)) :
    iprop(records B K ∗ sigR c k ∗ ow c (O + owedB c (k :: l)))
      ⊢ iprop((ow c (O + owedB c l) -∗ run c P Q) -∗ run c (.op (.semSignal (n, .tc) barS 1) fun _ => P) Q) := by
  subst hn
  have hO : O + owedB c (k :: l) = O + owedB c l + tallyAt (bCell (move c k)) () 1 := by rw [owedB_cons, add_assoc]
  rw [hO]
  unfold sigR ow
  iintro ⟨#HR, ⟨Ht, Hl⟩, ⟨%W, HO⟩⟩ Hk
  iapply (Rounds.wp_signal 𝒱₀ ER (Rd B) (c : Thread nD τ) none (dst := (move c k : Thread nD τ)) (κ := K (move c k, none)) (r := 0)
      (d := opp k) (by rw [duties_b]; exact Finset.mem_univ _) (amount_b B (move c k) (opp k)) () (O + owedB c l) rfl) $$ [HO Ht Hl]
  · isplitr; · iapply (inv_b B K (move c k)); iexact HR
    isplitl [HO]; · iexact HO
    isplitl [Ht]; · iexact Ht
    isplitl [Hl]
    · rw [payload_b, move_opp]; unfold handR landR; iexact Hl
    iapply (reached_b B K (move c k)); iexact HR
  iintro HO
  iapply Hk
  iexists W; iexact HO

theorem signals_rule (c : Dev nD) (P : Body F) (Q : PUnit.{1} → sProp 𝕄) (O : CellTallies nD τ sig Unit) : ∀ l : List (Fin 7),
    iprop(records B K ∗ bigSepL l (sigR (F := F) c) ∗ ow c (O + owedB c l))
      ⊢ iprop((ow c O -∗ run c P Q) -∗ run c (l.foldr (signalP c) P) Q)
  | [] => by
    rw [show owedB c [] = 0 from rfl, add_zero]
    iintro ⟨-, -, HO⟩ Hk
    iapply Hk; iexact HO
  | k :: l => by
    rw [bigSepL_cons']
    iintro ⟨#HR, ⟨Hs, Hl⟩, HO⟩ Hk
    iapply (wp_signal_named B K c (signalled c k) k (signalled_eq c k) _ Q O l) $$ [Hs HO]
    · isplitr; · iexact HR
      isplitl [Hs] <;> iassumption
    iintro HO
    iapply (signals_rule c P Q O l) $$ [Hl HO]
    · isplitr; · iexact HR
      isplitl [Hl] <;> iassumption
    iexact Hk

theorem mayWait_bar (c : Dev nD) : (records B K : sProp 𝕄) ⊢ MayWait (c : Thread nD τ) (.reg barS) () (owedX c all0) :=
  (records_lev B K).trans (mayWait_of c (.reg barS) 1 (le_of_eq (lv_b c)) all0 (fun x _ => Nat.lt_of_lt_of_le (Nat.lt_succ_self 1) (Nat.le_add_right 2 _)))

/-- The wait for all seven partners: every landing place this device will send to comes, and the barrier cell is closed. -/
theorem barrier_rule (c : Dev nD) (P : Body F) (Q : PUnit.{1} → sProp 𝕄) :
    iprop(records B K ∗ cred (tallyAt (bCell c) () 7) ∗ atPos ER (bCell c) 0 ∅ 0 ∗ ow c (owedX c all0))
      ⊢ iprop((((bigSep Finset.univ fun x : X => landR (F := F) (tgt c x) x) ∗ semVal (bCell c) 0 ∗ ow c (owedX c all0)) -∗ run c P Q)
          -∗ run c (.op (.semWait barS 7) fun _ => P) Q) := by
  unfold ow
  iintro ⟨#HR, Hc, Hat, ⟨%W, HO⟩⟩ Hk
  iapply (Rounds.wp_wait_rest_token 𝒱₀ ER (Rd B) (c : Thread nD τ) none (κ := K (c, none)) (sm := .reg barS)
      (wpE_semWait_eq 𝒱₀ (c : Thread nD τ) none Set.univ) (Set.mem_univ _) () (O := owedX c all0) (W := W) (R := 0) (m := 0) (T := ∅)
      (by rw [expect_b])) $$ [Hc HO Hat]
  · isplitr; · iapply (inv_b B K c); iexact HR
    isplitl [Hc]; · iexact Hc
    isplitl [HO]; · iexact HO
    isplitr; · iapply (mayWait_bar B K c); iexact HR
    iexact Hat
  iintro ⟨HO, Hat, -, Hpay⟩
  ihave Hp := (Entails.of_eq (rest_b B c)) $$ Hpay
  imod (Rounds.cell_close ER (Rd B) (Set.mem_univ (K (c, none))) (fun h => h) (R := 0 + 1) (duties_later B (bCell c))) $$ [Hat] with Hz
  · isplitr; · iapply (inv_b B K c); iexact HR
    iexact Hat
  iapply Hk
  isplitl [Hp]; · unfold landR; iexact Hp
  isplitl [Hz]; · iexact Hz
  iexists _; iexact HO

/-! ## The copy -/

theorem hz5 : (![0, 0, 0, 0, 0] : Fin 5 → Nat) = fun _ => 0 := funext fun a => by fin_cases a <;> rfl
theorem hz2 : (![0, 0] : Fin 2 → Nat) = fun _ => 0 := funext fun a => by fin_cases a <;> rfl

abbrev rX : Rect S1x1x1x256x256 := Rect.unit (s := S1x1x1x256x256) ![0, 0, 0, 0, 0] S1x1x1x256x256.size inb_S1x1x1x256x256_S1x1x1x256x256_0_0_0_0_0
abbrev rA : Rect S256x256 := Rect.unit (s := S256x256) ![0, 0] S256x256.size inb_S256x256_S256x256_0_0
theorem read_x (f : (cc0_stg0_0 : Ref sig .tc).ty.Contents (Elt F)) : xM.view.readAt (Elt F) rX.toLoadRect f = f :=
  Memref.readAt_unit_zero (Elt F) cc0_stg0_0 hz5 _ f
theorem write_a (f w : (cc0_scratch0 : Ref sig .tc).ty.Contents (Elt F)) :
    (a0.access rA : View sig .tc _ _ _).write (Elt F) f w Finset.univ = w :=
  Memref.write_access_unit_zero_univ (Elt F) cc0_scratch0 hz2 _ f w

theorem copy_rule (c : Dev nD) (f : Buf (Elt F) (xM.view.loc (c : Thread nD τ))) (P : Body F) (Q : PUnit.{1} → sProp 𝕄) :
    iprop((xM.view.loc (c : Thread nD τ) ↦[xM.view.set]{fullShare} f) ∗ wholeOf (F := F) c a0)
      ⊢ iprop((((xM.view.loc (c : Thread nD τ) ↦[xM.view.set]{fullShare} f)
            ∗ (a0.view.loc (c : Thread nD τ) ↦[a0.view.set]{fullShare} (k0_pay1 (F := F) f : (cc0_scratch0 : Ref sig .tc).ty.Contents (Elt F)))) -∗ run c P Q)
          -∗ run c (copyP P) Q) := by
  unfold copyP wholeOf
  simp only [View.set_whole]
  iintro ⟨Hx, ⟨%g, Ha⟩⟩ Hk
  iapply (wp_load 𝒱₀ (c : Thread nD τ) none Set.univ (m := xM) (Finset.subset_univ _)) $$ Hx; iintro Hx
  iapply (wp_load 𝒱₀ (c : Thread nD τ) none Set.univ (m := a0) (Finset.subset_univ _)) $$ Ha; iintro Ha
  iapply (wp_store 𝒱₀ (c : Thread nD τ) none Set.univ (m := a0) (r := rA) (Mk := Finset.univ) (Finset.subset_univ _)) $$ Ha; iintro Ha
  rw [write_a, read_x]
  iapply Hk
  isplitl [Hx] <;> iassumption

end Cert.AllReduce

end
-- ==== Proof.Whole.lean ====
/-
The whole body, from what the launch gives a device to the result in its staging buffer.
-/
module

public import proofs.«01_k».proof.Proof.Body
public import Idealize.ShloMosaic.Lib.Ring
public import Idealize.ShloMosaic.Lib.Exec.Geometry
public import Idealize.ShloMosaic.Lib.Pipeline.BigSepL

@[expose] public section

set_option maxRecDepth 65536

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (B : Dev nD → FVec F S256x256 .bf16) (K : Dev nD × CI → ℕ)

/-! ## What the body starts from and leaves, chunk by chunk -/

/-- Something of the seven transfers of a chunk. -/
def Seven (Φ : X → sProp 𝕄) (q : Fin 4) : sProp 𝕄 := iprop(Φ (q, 0) ∗ Φ (q, 1) ∗ Φ (q, 2) ∗ Φ (q, 3) ∗ Φ (q, 4) ∗ Φ (q, 5) ∗ Φ (q, 6))
theorem sevens (Φ : X → sProp 𝕄) : bigSep Finset.univ Φ = bigSep Finset.univ (Seven Φ) := perX Φ

def atR (c : Dev nD) (x : X) : sProp 𝕄 := atPos ER (rCell c x) 0 ∅ 0
def credR (c : Dev nD) (x : X) : sProp 𝕄 := cred (tallyAt (rCell c x) () N)
def closedR (c : Dev nD) (x : X) : sProp 𝕄 := semVal (rCell c x) 0

theorem begin_of (c : Dev nD) (q : Fin 4) :
    iprop((at_ c a0 q fullShare (A0 B c q) ∗ any_ (F := F) c a1 q ∗ any_ (F := F) c a2 q ∗ any_ (F := F) c oM q)
        ∗ Seven (sendR (F := F) c) q ∗ Seven (recvR (F := F) c) q ∗ Seven (posR (F := F) c) q) ⊢ Begin B c q := by
  unfold Seven Begin Pre0 Pre1 Pre2 Pre3 Pos0 Pos1 Pos2
  iintro ⟨⟨C0, C1, C2, C3⟩, ⟨S0, S1, S2, S3, S4, S5, S6⟩, ⟨R0, R1, R2, R3, R4, R5, R6⟩, P0, P1, P2, P3, P4, P5, P6⟩
  isplitr [P0 P1 P2 P3 P4 P5 P6]
  · isplitl [C0 S0]
    · isplitl [C0] <;> iassumption
    isplitl [R0 C1 S1 S2 S3]
    · isplitl [R0]; · iexact R0
      isplitl [C1]; · iexact C1
      isplitl [S1]; · iexact S1
      isplitl [S2] <;> iassumption
    isplitl [R1 R2 R3 C2 S4 S5 S6]
    · isplitl [R1 R2 R3]
      · isplitl [R3]; · iexact R3
        isplitl [R2] <;> iassumption
      isplitl [C2]; · iexact C2
      isplitl [S4]; · iexact S4
      isplitl [S5] <;> iassumption
    isplitl [R4 R5 R6]
    · isplitl [R6]; · iexact R6
      isplitl [R5] <;> iassumption
    iexact C3
  isplitl [P0]; · iexact P0
  isplitl [P1 P2 P3]
  · isplitl [P1]; · iexact P1
    isplitl [P2] <;> iassumption
  isplitl [P4]; · iexact P4
  isplitl [P5] <;> iassumption

theorem done_land (c : Dev nD) (x : X) : doneR B c x ⊢ iprop(landR (F := F) c x ∗ closedR (F := F) c x) := by
  unfold doneR landR closedR
  iintro ⟨H, Hz⟩
  isplitl [H]; · iexists _; iexact H
  iexact Hz

theorem finish_of (c : Dev nD) (q : Fin 4) : Finish B c q ⊢
    iprop((any_ (F := F) c a0 q ∗ any_ (F := F) c a1 q ∗ any_ (F := F) c a2 q ∗ at_ c oM q fullShare (A3 B c q))
        ∗ Seven (landR (F := F) c) q ∗ Seven (zeroR (F := F) c) q ∗ Seven (closedR (F := F) c) q) := by
  unfold Finish End0 End1 End2 Post3 Seven
  iintro ⟨⟨C0, Z0⟩, ⟨D0, C1, Z1, Z2, Z3⟩, ⟨⟨D3, D2, D1⟩, C2, Z4, Z5, Z6⟩, ⟨D6, D5, D4⟩, C3⟩
  ihave D0 := (done_land B c (q, 0)) $$ D0
  icases D0 with ⟨L0, W0⟩
  ihave D1 := (done_land B c (q, 1)) $$ D1
  icases D1 with ⟨L1, W1⟩
  ihave D2 := (done_land B c (q, 2)) $$ D2
  icases D2 with ⟨L2, W2⟩
  ihave D3 := (done_land B c (q, 3)) $$ D3
  icases D3 with ⟨L3, W3⟩
  ihave D4 := (done_land B c (q, 4)) $$ D4
  icases D4 with ⟨L4, W4⟩
  ihave D5 := (done_land B c (q, 5)) $$ D5
  icases D5 with ⟨L5, W5⟩
  ihave D6 := (done_land B c (q, 6)) $$ D6
  icases D6 with ⟨L6, W6⟩
  isplitl [C0 C1 C2 C3]
  · isplitl [C0]; · iexists _; iexact C0
    isplitl [C1]; · iexists _; iexact C1
    isplitl [C2]; · iexists _; iexact C2
    iexact C3
  isplitl [L0 L1 L2 L3 L4 L5 L6]
  · isplitl [L0]; · iexact L0
    isplitl [L1]; · iexact L1
    isplitl [L2]; · iexact L2
    isplitl [L3]; · iexact L3
    isplitl [L4]; · iexact L4
    isplitl [L5]; · iexact L5
    iexact L6
  isplitl [Z0 Z1 Z2 Z3 Z4 Z5 Z6]
  · isplitl [Z0]; · iexact Z0
    isplitl [Z1]; · iexact Z1
    isplitl [Z2]; · iexact Z2
    isplitl [Z3]; · iexact Z3
    isplitl [Z4]; · iexact Z4
    isplitl [Z5]; · iexact Z5
    iexact Z6
  isplitl [W0]; · iexact W0
  isplitl [W1]; · iexact W1
  isplitl [W2]; · iexact W2
  isplitl [W3]; · iexact W3
  isplitl [W4]; · iexact W4
  isplitl [W5]; · iexact W5
  iexact W6

/-- Device `c`'s own part of the protocol: its positions, and the tokens of the duties it pays. -/
def linear (c : Dev nD) : sProp 𝕄 :=
  iprop(atPos ER (bCell c) 0 ∅ 0 ∗ bigSep Finset.univ (posR (F := F) c) ∗ bigSep Finset.univ (atR (F := F) c)
    ∗ (bigSep Finset.univ fun k : Fin 7 => dutyTok ER (bCell (move c k)) 0 (opp k))
    ∗ (bigSep Finset.univ fun x : X => dutyTok ER (sCell c x) 0 0) ∗ (bigSep Finset.univ fun x : X => dutyTok ER (rCell (tgt c x) x) 0 0))
/-- The credits promised to it at launch. -/
def creds (c : Dev nD) : sProp 𝕄 := iprop(cred (tallyAt (bCell c) () 7) ∗ bigSep Finset.univ (credR (F := F) c))
/-- Its scratch buffers, at any contents. -/
def scratch (c : Dev nD) : sProp 𝕄 :=
  iprop(wholeOf (F := F) c a0 ∗ wholeOf (F := F) c a1 ∗ wholeOf (F := F) c a2 ∗ wholeOf (F := F) c rx ∗ wholeOf (F := F) c r1 ∗ wholeOf (F := F) c r2)
/-- Its semaphores at zero, at the end. -/
def closed (c : Dev nD) : sProp 𝕄 := iprop(semVal (bCell c) 0 ∗ bigSep Finset.univ (zeroR (F := F) c) ∗ bigSep Finset.univ (closedR (F := F) c))

abbrev xAt (c : Dev nD) (f : Buf (Elt F) (xM.view.loc (c : Thread nD τ))) : sProp 𝕄 := xM.view.loc (c : Thread nD τ) ↦[xM.view.set]{fullShare} f
abbrev oAt (c : Dev nD) (f : Buf (Elt F) (oM.view.loc (c : Thread nD τ))) : sProp 𝕄 := oM.view.loc (c : Thread nD τ) ↦[oM.view.set]{fullShare} f

theorem sends_of (c : Dev nD) :
    iprop((bigSep Finset.univ fun x : X => dutyTok ER (sCell c x) 0 0) ∗ (bigSep Finset.univ fun x : X => dutyTok ER (rCell (tgt c x) x) 0 0)
        ∗ bigSep Finset.univ fun x : X => landR (F := F) (tgt c x) x) = bigSep Finset.univ (sendR (F := F) c) := by
  rw [← bigSep_sep', ← bigSep_sep']; rfl
theorem recvs_of (c : Dev nD) :
    iprop(bigSep Finset.univ (credR (F := F) c) ∗ bigSep Finset.univ (atR (F := F) c)) = bigSep Finset.univ (recvR (F := F) c) := by
  rw [← bigSep_sep']; rfl
theorem sigs_of (c : Dev nD) :
    iprop((bigSep Finset.univ fun k : Fin 7 => dutyTok ER (bCell (move c k)) 0 (opp k)) ∗ bigSep Finset.univ (landR (F := F) c)) = bigSepL dirs (sigR (F := F) c) := by
  rw [hands_eq, ← bigSep_sep', ← fin7_eq]; rfl
theorem begins_of (c : Dev nD) :
    iprop(((bigSep Finset.univ fun q => at_ c a0 q fullShare (A0 B c q)) ∗ (bigSep Finset.univ fun q => any_ (F := F) c a1 q)
          ∗ (bigSep Finset.univ fun q => any_ (F := F) c a2 q) ∗ (bigSep Finset.univ fun q => any_ (F := F) c oM q))
        ∗ bigSep Finset.univ (sendR (F := F) c) ∗ bigSep Finset.univ (recvR (F := F) c) ∗ bigSep Finset.univ (posR (F := F) c)) ⊢ bigSep Finset.univ (Begin B c) := by
  have h := bigSep_mono (s := Finset.univ) fun q _ => begin_of B c q
  rw [bigSep_sep', bigSep_sep', bigSep_sep', bigSep_sep', bigSep_sep', bigSep_sep', ← sevens, ← sevens, ← sevens] at h
  exact h
theorem finishes_of (c : Dev nD) : bigSep Finset.univ (Finish B c) ⊢
    iprop(((bigSep Finset.univ fun q => any_ (F := F) c a0 q) ∗ (bigSep Finset.univ fun q => any_ (F := F) c a1 q)
          ∗ (bigSep Finset.univ fun q => any_ (F := F) c a2 q) ∗ (bigSep Finset.univ fun q => at_ c oM q fullShare (A3 B c q)))
        ∗ bigSep Finset.univ (landR (F := F) c) ∗ bigSep Finset.univ (zeroR (F := F) c) ∗ bigSep Finset.univ (closedR (F := F) c)) := by
  have h := bigSep_mono (s := Finset.univ) fun q _ => finish_of B c q
  rw [bigSep_sep', bigSep_sep', bigSep_sep', bigSep_sep', bigSep_sep', bigSep_sep', ← sevens, ← sevens, ← sevens] at h
  exact h

/-- The whole body of device `c`, from what the launch gives it to the result in its staging buffer. -/
theorem body_rule (c : Dev nD) (f : Buf (Elt F) (xM.view.loc (c : Thread nD τ))) (hf : (k0_pay1 (F := F) f : FVec F S256x256 .bf16) = B c) (Q : PUnit.{1} → sProp 𝕄) :
    iprop(records B K ∗ linear (F := F) c ∗ creds (F := F) c ∗ scratch (F := F) c ∗ xAt c f ∗ wholeOf (F := F) c oM ∗ ow c (O₀ c))
      ⊢ iprop(((scratch (F := F) c ∗ closed (F := F) c ∗ xAt c f ∗ oAt c (outOf B c) ∗ ow c 0) -∗ Q ⟨⟩) -∗ run c (bodyP c) Q) := by
  unfold linear creds scratch bodyP O₀
  iintro ⟨#HR, ⟨Hat, Hpos, HatR, Htk, HtS, HtR⟩, ⟨Hc, Hcr⟩, ⟨Ha0, Ha1, Ha2, Hrx, Hr1, Hr2⟩, Hx, Ho, HO⟩ Hk
  icases Hrx with ⟨%g₀, Hrx⟩
  icases Hr1 with ⟨%g₁, Hr1⟩
  icases Hr2 with ⟨%g₂, Hr2⟩
  ihave HL := (landing_split (F := F) c) $$ [Hrx Hr1 Hr2]
  · isplitl [Hrx]; · iexists g₀; iexact Hrx
    isplitl [Hr1]; · iexists g₁; iexact Hr1
    iexists g₂; iexact Hr2
  icases HL with ⟨HL, Hsp⟩
  ihave Hs := (Entails.of_eq (sigs_of (F := F) c)) $$ [Htk HL]
  · isplitl [Htk] <;> iassumption
  iapply (signals_rule B K c _ Q (owedX c all0) dirs) $$ [Hs HO]
  · isplitr; · iexact HR
    isplitl [Hs] <;> iassumption
  iintro HO
  iapply (copy_rule c f _ Q) $$ [Hx Ha0]
  · isplitl [Hx] <;> iassumption
  iintro ⟨Hx, Ha0⟩
  rw [hf]
  iapply (barrier_rule B K c _ Q) $$ [Hc Hat HO]
  · isplitr; · iexact HR
    isplitl [Hc]; · iexact Hc
    isplitl [Hat] <;> iassumption
  iintro ⟨HL, Hz, HO⟩
  ihave Hsend := (Entails.of_eq (sends_of (F := F) c)) $$ [HtS HtR HL]
  · isplitl [HtS]; · iexact HtS
    isplitl [HtR] <;> iassumption
  ihave Hrecv := (Entails.of_eq (recvs_of (F := F) c)) $$ [Hcr HatR]
  · isplitl [Hcr] <;> iassumption
  ihave Ha0 := (chunks_split c a0 (B c)) $$ Ha0
  ihave Ha1 := (chunks_any (F := F) c a1) $$ Ha1
  ihave Ha2 := (chunks_any (F := F) c a2) $$ Ha2
  ihave Ho := (chunks_any (F := F) c oM) $$ Ho
  iapply (main_rule B K c Q) $$ [Ha0 Ha1 Ha2 Ho Hsend Hrecv Hpos HO]
  · isplitr; · iexact HR
    isplitr [HO]
    · iapply (begins_of B c)
      isplitl [Ha0 Ha1 Ha2 Ho]
      · isplitl [Ha0]; · iexact Ha0
        isplitl [Ha1]; · iexact Ha1
        isplitl [Ha2] <;> iassumption
      isplitl [Hsend]; · iexact Hsend
      isplitl [Hrecv] <;> iassumption
    iexact HO
  iintro ⟨HF, HO⟩
  ihave HF := (finishes_of B c) $$ HF
  icases HF with ⟨⟨Ha0, Ha1, Ha2, Ho⟩, HL, Hzs, Hzr⟩
  ihave Ha0 := (chunks_join (F := F) c a0 (B c)) $$ Ha0
  ihave Ha1 := (chunks_join (F := F) c a1 (B c)) $$ Ha1
  ihave Ha2 := (chunks_join (F := F) c a2 (B c)) $$ Ha2
  ihave Ho := (out_join B c) $$ Ho
  ihave HL := (landing_join (F := F) c g₀ g₁ g₂) $$ [HL Hsp]
  · isplitl [HL] <;> iassumption
  icases HL with ⟨Hrx, Hr1, Hr2⟩
  iapply Hk
  unfold closed
  isplitl [Ha0 Ha1 Ha2 Hrx Hr1 Hr2]
  · isplitl [Ha0]; · iexact Ha0
    isplitl [Ha1]; · iexact Ha1
    isplitl [Ha2]; · iexact Ha2
    isplitl [Hrx]; · iexact Hrx
    isplitl [Hr1] <;> iassumption
  isplitl [Hz Hzs Hzr]
  · isplitl [Hz]; · iexact Hz
    isplitl [Hzs] <;> iassumption
  isplitl [Hx]; · iexact Hx
  isplitl [Ho] <;> iassumption

end Cert.AllReduce

end
-- ==== Proof.Obligation.lean ====
/-
The proof data of the launch, and the body's obligation.
-/
module

public import proofs.«01_k».proof.Proof.Whole
public import Idealize.ShloMosaic.Lib.Ring
public import Idealize.ShloMosaic.Lib.Exec.Geometry
public import Idealize.ShloMosaic.Lib.Pipeline.BigSepL

@[expose] public section

set_option maxRecDepth 65536

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The memory at launch: any contents, every semaphore at zero, any generator registers. -/
def s₀ : MemSt nD τ sig (Elt F) := ⟨m, fun _ => 0, ρ⟩

/-- Device `c`'s block of the argument, as staged; -/
def xstg (c : Dev nD) : (cc0_stg0_0 : Ref sig .tc).ty.Contents (Elt F) :=
  (win0_0.blk (0 : Fin 1)).view.read (Elt F) ((s₀ m ρ).mem ((c : Thread nD τ).loc main_arg0))
/-- as a matrix, -/
def block (c : Dev nD) : FVec F S256x256 .bf16 := k0_pay1 (F := F) (xstg m ρ c)
/-- and the sum the kernel leaves on it. -/
def outAt (c : Dev nD) : (cc0_stg1_0 : Ref sig .tc).ty.Contents (Elt F) := outOf (block m ρ) c

/-! ## The run of the body, as the launch reads it -/

/-- What device `c`'s body starts from. -/
def start (c : Dev nD) : sProp 𝕄 := iprop(∃ K, records (block m ρ) K ∗ linear (F := F) c ∗ creds (F := F) c)
def Φ₀ (c : Dev nD) : sProp 𝕄 := iprop(start m ρ c ∗ scratch (F := F) c)
def Φ₁ (c : Dev nD) : sProp 𝕄 := iprop(scratch (F := F) c ∗ closed (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at contents `X`. -/
def held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_x (c : Dev nD) (d) : (dats m ρ 0 c).before (0 : Fin 2) t0_0 d = xstg m ρ c := by
  unfold Dat.before
  rw [if_pos (show (cfg0.win (0 : Fin 2)).fetch t0_0 = true from rfl)]
  rfl

theorem whole_pts (b : Ref sig .tc) : (Memref.whole b).view.set = (Finset.univ : Finset _) := View.set_whole _

def bodyPre (c : Dev nD) : sProp 𝕄 :=
  iprop(Φ₀ m ρ c ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))
def bodyPost (c : Dev nD) : sProp 𝕄 :=
  iprop(Φ₁ (F := F) c ∗ (dats m ρ 0 c).owesAt () t0_0.succ ∗ held c cc0_stg0_0 (xstg m ρ c) ∗ held c cc0_stg1_0 (outAt m ρ c))

theorem body_runs (c : Dev nD) : bodyPre m ρ c ⊢ run c (bodyP c) (fun _ => bodyPost m ρ c) := by
  unfold bodyPre Φ₀ start held Dat.owesAt Pipeline.owesWithin
  rw [show (dats m ρ 0 c).owed t0_0.castSucc = O₀ c from rfl]
  iintro ⟨⟨⟨%K, HR, Hlin, Hcr⟩, Hscr⟩, ⟨%W, -, HO⟩, ⟨%d, %f, %hf, Hx⟩, ⟨%d', %g, %hg, Ho⟩⟩
  have hx : f = xstg m ρ c := hf.trans (before_x m ρ c d)
  iapply (body_rule (block m ρ) K c f (by rw [hx]; rfl) (fun _ => bodyPost m ρ c)) $$ [HR Hlin Hcr Hscr Hx Ho HO]
  · isplitl [HR]; · iexact HR
    isplitl [Hlin]; · iexact Hlin
    isplitl [Hcr]; · iexact Hcr
    isplitl [Hscr]; · iexact Hscr
    isplitl [Hx]
    · unfold xAt; rw [whole_pts]; iexact Hx
    isplitl [Ho]
    · unfold wholeOf; iexists g; rw [whole_pts]; iexact Ho
    unfold ow; iexists W; iexact HO
  unfold bodyPost Φ₁ held Dat.owesAt Pipeline.owesWithin ow
  rw [show (dats m ρ 0 c).owed t0_0.succ = 0 from rfl]
  iintro ⟨Hscr, Hz, Hx, Ho, ⟨%W', HO⟩⟩
  isplitl [Hscr Hz]
  · isplitl [Hscr] <;> iassumption
  isplitl [HO]
  · iexists W'
    isplitr; · ipureintro; exact fun _ _ => Or.inl trivial
    iexact HO
  isplitl [Hx]
  · iexists f; isplitr; · (ipureintro; exact hx)
    unfold xAt; rw [whole_pts]; iexact Hx
  iexists _; isplitr; · (ipureintro; rfl)
  unfold oAt; rw [whole_pts]; iexact Ho

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_buffer]
  show bodyPre m ρ c ⊢ wp frame (wpE (defs₀ (F := F)) 𝒱₀ c none) Set.univ
    (cc0_body xM (Memref.isWhole_whole _) oM (Memref.isWhole_whole _) a0 (Memref.isWhole_whole _) a1 (Memref.isWhole_whole _) a2 (Memref.isWhole_whole _)
      rx (Memref.isWhole_whole _) r1 (Memref.isWhole_whole _) r2 (Memref.isWhole_whole _)
      cc0_scratch6 cc0_scratch7 cc0_scratch8 cc0_scratch9 cc0_scratch10) (fun _ => bodyPost m ρ c)
  rw [body_eq, wp_deviceId]
  exact body_runs m ρ c

end Cert.AllReduce

end
-- ==== Proof.Launch.lean ====
/-
The launch: every device's cells and tokens set up, and the run of the whole program.
-/
module

public import proofs.«01_k».proof.Proof.Obligation
public import Idealize.ShloMosaic.Lib.Ring
public import Idealize.ShloMosaic.Lib.Pipeline.CollectiveSegs
public import Idealize.ShloMosaic.Lib.Exec.Geometry
public import Idealize.ShloMosaic.Lib.Pipeline.BigSepL

@[expose] public section

set_option maxRecDepth 65536

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

abbrev osem (bx : Bool × X) : SemLoc sig := csem (some bx)
theorem ownSemFacts : Pipeline.OwnSemFacts cfg0.spec osem where
  isScoped := by decide +kernel
  inj := fun _ _ h => Option.some.inj (csem_injective h)
  disj := by decide +kernel

def ciE : Unit ⊕ (X ⊕ X) ≃ CI where
  toFun := fun | .inl _ => none | .inr (.inl x) => some (false, x) | .inr (.inr x) => some (true, x)
  invFun := fun | none => .inl () | some (false, x) => .inr (.inl x) | some (true, x) => .inr (.inr x)
  left_inv := by rintro (_ | _ | _) <;> rfl
  right_inv := by rintro (_ | ⟨_ | _, _⟩) <;> rfl
theorem ci_eq (Φ : CI → sProp 𝕄) : bigSep Finset.univ Φ
    = iprop(Φ none ∗ (bigSep Finset.univ fun x : X => Φ (some (false, x))) ∗ bigSep Finset.univ fun x : X => Φ (some (true, x))) := by
  rw [bigSep_univ_equiv ciE, bigSep_univ_sum, bigSep_univ_sum, bigSep_univ_of_subsingleton ()]; rfl
def bxE : X ⊕ X ≃ Bool × X where
  toFun := fun | .inl x => (false, x) | .inr x => (true, x)
  invFun := fun | (false, x) => .inl x | (true, x) => .inr x
  left_inv := by rintro (_ | _) <;> rfl
  right_inv := by rintro ⟨_ | _, _⟩ <;> rfl
theorem bx_eq (Φ : Bool × X → sProp 𝕄) : bigSep Finset.univ Φ
    = iprop((bigSep Finset.univ fun x : X => Φ (false, x)) ∗ bigSep Finset.univ fun x : X => Φ (true, x)) := by
  rw [bigSep_univ_equiv bxE, bigSep_univ_sum]; rfl

def allCells : Finset (GSem nD τ sig) := Finset.univ.map ⟨kcell, kcell_injective⟩

/-- A device's tokens as minted: its barrier's seven duties, and the one duty of each send and receive semaphore. -/
abbrev TI : Type := Fin 7 ⊕ (X ⊕ X)
def tokAt : TI → CI × Fin 7
  | .inl k => (none, k) | .inr (.inl x) => (some (false, x), 0) | .inr (.inr x) => (some (true, x), 0)
theorem tokAt_injective : Function.Injective tokAt := by
  rintro (k | x | x) (k' | x' | x') h <;> simp_all [tokAt]
abbrev tokOf (ct : Dev nD × TI) : GSem nD τ sig × ℕ × Fin 7 := (kcell (ct.1, (tokAt ct.2).1), 0, (tokAt ct.2).2)
theorem tokOf_injective : Function.Injective tokOf := by
  rintro ⟨c, t⟩ ⟨c', t'⟩ h
  have h1 := kcell_injective (congrArg (fun y : GSem nD τ sig × ℕ × Fin 7 => y.1) h)
  have h2 : (tokAt t).2 = (tokAt t').2 := congrArg (fun y : GSem nD τ sig × ℕ × Fin 7 => y.2.2) h
  have hc : c = c' := congrArg Prod.fst h1
  have ht : t = t' := tokAt_injective (Prod.ext (congrArg Prod.snd h1) h2)
  rw [hc, ht]
def allToks : Finset (GSem nD τ sig × ℕ × Fin 7) := Finset.univ.map ⟨tokOf, tokOf_injective⟩

/-- The library's part of the launch and the protocol's. -/
def u₀ : UU := (initOf (Pipeline.cells cfgs cellOf_inj) (Pipeline.launchToks cfgs cellOf_inj), initOf allCells allToks)

/-- The tokens of device `c`'s own cells. -/
def toks (c : Dev nD) : sProp 𝕄 :=
  iprop((bigSep Finset.univ fun k : Fin 7 => dutyTok ER (bCell c) 0 k)
    ∗ (bigSep Finset.univ fun x : X => dutyTok ER (sCell c x) 0 0) ∗ (bigSep Finset.univ fun x : X => dutyTok ER (rCell c x) 0 0))
/-- The tokens of the duties it pays. -/
def payToks (c : Dev nD) : sProp 𝕄 :=
  iprop((bigSep Finset.univ fun k : Fin 7 => dutyTok ER (bCell (move c k)) 0 (opp k))
    ∗ (bigSep Finset.univ fun x : X => dutyTok ER (sCell c x) 0 0) ∗ (bigSep Finset.univ fun x : X => dutyTok ER (rCell (tgt c x) x) 0 0))

/-- The tokens dealt: each to the device that pays its duty. -/
theorem toks_dealt : (bigSep Finset.univ fun c : Dev nD => (toks c : sProp 𝕄)) = bigSep Finset.univ fun c : Dev nD => payToks c := by
  have hb : (bigSep Finset.univ fun c : Dev nD => bigSep Finset.univ fun k : Fin 7 => (dutyTok ER (bCell c) 0 k : sProp 𝕄))
      = bigSep Finset.univ fun c : Dev nD => bigSep Finset.univ fun k : Fin 7 => (dutyTok ER (bCell (move c k)) 0 (opp k) : sProp 𝕄) := by
    rw [bigSep_univ_comm, bigSep_univ_comm (fun (c : Dev nD) (k : Fin 7) => (dutyTok ER (bCell (move c k)) 0 (opp k) : sProp 𝕄)), bigSep_univ_equiv oppE]
    refine bigSep_congr fun k _ => ?_
    rw [bigSep_univ_equiv (shift k)]; rfl
  have hr : (bigSep Finset.univ fun c : Dev nD => bigSep Finset.univ fun x : X => (dutyTok ER (rCell c x) 0 0 : sProp 𝕄))
      = bigSep Finset.univ fun c : Dev nD => bigSep Finset.univ fun x : X => (dutyTok ER (rCell (tgt c x) x) 0 0 : sProp 𝕄) := by
    rw [bigSep_univ_comm, bigSep_univ_comm (fun (c : Dev nD) (x : X) => (dutyTok ER (rCell (tgt c x) x) 0 0 : sProp 𝕄))]
    refine bigSep_congr fun x _ => ?_
    rw [bigSep_univ_equiv (shift (kind x))]; rfl
  unfold toks payToks
  rw [bigSep_sep', bigSep_sep', bigSep_sep', bigSep_sep', hb, hr]

/-! ## The protocol set up -/

/-- What the launch deals device `c`, -/
def G (c : Dev nD) : sProp 𝕄 :=
  iprop((bigSep Finset.univ fun i : CI => roundState ER (Rd (block m ρ)) (kcell (c, i)) 0)
    ∗ (bigSep Finset.univ fun i : CI => iprop(atPos ER (kcell (c, i)) 0 ∅ 0 ∗ reached ER (kcell (c, i)) 0)) ∗ toks c)
/-- what is then known of all cells but their levels, -/
def known (K : Dev nD × CI → ℕ) : sProp 𝕄 :=
  iprop((bigSep Finset.univ fun ci : Dev nD × CI => cellInv ER (Rd (block m ρ)) (K ci) (kcell ci))
    ∗ bigSep Finset.univ fun ci : Dev nD × CI => reached ER (kcell ci) 0)
instance known_persistent (K : Dev nD × CI → ℕ) : BI.Persistent (known m ρ K) := by unfold known; infer_instance
/-- and what device `c` takes into the kernel. -/
def G' (c : Dev nD) : sProp 𝕄 := iprop(∃ K, known m ρ K ∗ linear (F := F) c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun y => (dutyTok ER y.1 y.2.1 y.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (Rd (block m ρ)) allCells allToks) $$ HX with ⟨Hst, Hr, Hat, Htok⟩
  imodintro
  ihave Hst' := (Entails.of_eq (hX fun g => roundState ER (Rd (block m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the one semaphore the kernel does not own. -/
theorem unscopedSems0_eq (c : Dev nD) : (unscopedSems0 c : sProp 𝕄) = semVal (bCell c) 0 := by
  unfold unscopedSems0; rw [bigSep_eq_bigSepL_of_eq [SemLoc.reg barS] (by decide +kernel) (by decide)]; rfl
theorem ownSems0_eq (c : Dev nD) : (Pipeline.ownSems0 (Ix := Unit) (Name := ℕ) (U := UU) (Lvl := ℕ) (Val := Elt F) (τ := τ) osem c : sProp 𝕄)
    = iprop(bigSep Finset.univ (zeroR (F := F) c) ∗ bigSep Finset.univ (closedR (F := F) c)) := by
  unfold Pipeline.ownSems0; rw [bx_eq]; rfl
theorem sems0 (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, ci_eq]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (Rd (block m ρ)) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun i : CI => semVal (kcell (c, i)) 0) ∗ bigSep Finset.univ fun i : CI => roundState ER (Rd (block m ρ)) (kcell (c, i)) 0)
      ⊢ (|={Set.univ}=> bigSep Finset.univ fun i : CI => iprop(∃ κ : ℕ, cellInv ER (Rd (block m ρ)) κ (kcell (c, i))) : sProp 𝕄) from by
        rw [← bigSep_sep']
        exact (bigSep_mono fun i _ => (Rounds.body_intro ER (Rd (block m ρ)) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem linear_of (c : Dev nD) : iprop((bigSep Finset.univ fun i : CI => (atPos ER (kcell (c, i)) 0 ∅ 0 : sProp 𝕄)) ∗ payToks c) ⊢ linear (F := F) c := by
  unfold linear payToks
  rw [ci_eq]
  iintro ⟨⟨HB, HS, HV⟩, H1, H2, H3⟩
  isplitl [HB]; · iexact HB
  isplitl [HS]; · iexact HS
  isplitl [HV]; · iexact HV
  isplitl [H1]; · iexact H1
  isplitl [H2] <;> iassumption

theorem known_at (K : Dev nD × CI → ℕ) (c : Dev nD) : iprop(known m ρ K ∗ linear (F := F) c) ⊢ G' m ρ c := by
  unfold G'; iintro H; iexists K; iexact H
theorem known_with (K : Dev nD × CI → ℕ) : iprop(known m ρ K ∗ bigSep Finset.univ (linear (F := F))) ⊢ bigSep Finset.univ (G' m ρ) := by
  refine (sep_mono_left (BI.bigSep_of_persistent (Finset.univ : Finset (Dev nD)) (known m ρ K))).trans ?_
  rw [← bigSep_sep']
  exact bigSep_mono fun c _ => known_at m ρ K c

theorem regroup :
    (bigSep Finset.univ fun c : Dev nD => iprop((bigSep Finset.univ fun i : CI => iprop(∃ κ : ℕ, cellInv ER (Rd (block m ρ)) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ci : Dev nD × CI => iprop(∃ κ : ℕ, cellInv ER (Rd (block m ρ)) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄)), toks_dealt]
  iintro ⟨HI, ⟨Hat, HR⟩, Htk⟩
  ihave HK := (BI.bigSep_exists_pi Finset.univ (fun (ci : Dev nD × CI) (κ : ℕ) => (cellInv ER (Rd (block m ρ)) κ (kcell ci) : sProp 𝕄))) $$ HI
  icases HK with ⟨%K, HI⟩
  iapply (known_with m ρ K)
  isplitl [HI HR]
  · unfold known; isplitl [HI] <;> iassumption
  · iapply ((Entails.of_eq (bigSep_sep' Finset.univ (fun c : Dev nD => bigSep Finset.univ fun i : CI => (atPos ER (kcell (c, i)) 0 ∅ 0 : sProp 𝕄)) payToks).symm).trans
      (bigSep_mono fun c _ => linear_of (F := F) c))
    isplitl [Hat] <;> iassumption

/-- The set-up of every device's cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem sum_one (k : Fin 7) (c : Dev nD) (i : CI) (n : ℕ) :
    ∑ d : Dev nD, (tallyAt (kcell (move d k, i)) () n : CellTallies nD τ sig Unit) (kcell (c, i)) () = n := by
  rw [Finset.sum_eq_single (move c (opp k))]
  · rw [tallyAt_apply, opp_move, if_pos ⟨rfl, rfl⟩]
  · intro d _ hd
    rw [tallyAt_apply, if_neg]
    rintro ⟨h, -⟩
    have e : c = move d k := congrArg Prod.fst (kcell_injective h)
    exact hd (by rw [e, move_opp])
  · exact fun h => absurd (Finset.mem_univ _) h
theorem sum_none (k : Fin 7) (j : CI) (c : Dev nD) (i : CI) (hi : i ≠ j) (n : ℕ) :
    ∑ d : Dev nD, (tallyAt (kcell (move d k, j)) () n : CellTallies nD τ sig Unit) (kcell (c, i)) () = 0 := by
  refine Finset.sum_eq_zero fun d _ => ?_
  rw [tallyAt_apply, if_neg]
  rintro ⟨h, -⟩
  exact hi (congrArg Prod.snd (kcell_injective h))
theorem sum_cell (k : Fin 7) (j : CI) (c : Dev nD) (i : CI) (n : ℕ) :
    ∑ d : Dev nD, (tallyAt (kcell (move d k, j)) () n : CellTallies nD τ sig Unit) (kcell (c, i)) () = if i = j then n else 0 := by
  split
  · next h => subst h; exact sum_one k c i n
  · next h => exact sum_none k j c i h n

/-- What is owed, cell by cell of this proof's names. -/
theorem owedB_cell (d : Dev nD) (k : Fin 7) (l : List (Fin 7)) : owedB d (k :: l) = owedB d l + tallyAt (kcell (move d k, none)) () 1 := owedB_cons d k l
theorem owedX_cell (d : Dev nD) (x : X) (l : List X) : owedX d (x :: l) = owedX d l + tallyAt (kcell (move d (kind x), some (true, x))) () N := owedX_cons d x l

/-- Over all devices, each barrier is owed one unit per direction, -/
theorem sum_owedB (c : Dev nD) (i : CI) (l : List (Fin 7)) : ∑ d : Dev nD, owedB d l (kcell (c, i)) () = if i = none then l.length else 0 := by
  induction l with
  | nil => simp [owedB]
  | cons k l ih =>
    simp only [owedB_cell, Pi.add_apply, Finsupp.add_apply]
    rw [Finset.sum_add_distrib, ih, sum_cell]
    split <;> simp
/-- and each receive semaphore one transfer. -/
theorem sum_owedX (c : Dev nD) (i : CI) (l : List X) : ∑ d : Dev nD, owedX d l (kcell (c, i)) () = (l.map fun x => if i = some (true, x) then N else 0).sum := by
  induction l with
  | nil => simp [owedX]
  | cons x l ih =>
    simp only [owedX_cell, Pi.add_apply, Finsupp.add_apply]
    rw [Finset.sum_add_distrib, ih, sum_cell, List.map_cons, List.sum_cons, Nat.add_comm]

theorem sum_ite_count (n : ℕ) (x : X) (l : List X) : (l.map fun y => if (some (true, x) : CI) = some (true, y) then n else 0).sum = l.count x * n := by
  induction l with
  | nil => simp
  | cons y l ih =>
    rw [List.map_cons, List.sum_cons, ih, List.count_cons]
    by_cases h : y = x
    · subst h
      rw [if_pos rfl, if_pos (beq_self_eq_true y), Nat.succ_mul, Nat.add_comm]
    · rw [if_neg fun e => h (congrArg Prod.snd (Option.some.inj e)).symm, if_neg fun e => h (eq_of_beq e), Nat.zero_add, Nat.add_zero]

theorem launch_at (c : Dev nD) (i : CI) (n : ℕ) (h : ∑ d : Dev nD, O₀ d (kcell (c, i)) () = n) :
    tallyOn (kcell (c, i)) (launchCredit (Pipeline.owing O₀) 0 (kcell (c, i))) = (tallyAt (kcell (c, i)) () n : CellTallies nD τ sig Unit) := by
  unfold tallyAt; refine congrArg _ (Finsupp.ext fun u => ?_); cases u
  rw [Pipeline.launchCredit_owing, Finsupp.single_eq_same, h]
theorem launch_b (c : Dev nD) :
    tallyOn (bCell c) (launchCredit (Pipeline.owing O₀) 0 (bCell c)) = (tallyAt (bCell c) () 7 : CellTallies nD τ sig Unit) :=
  launch_at c none 7 <| by
    unfold O₀; simp only [Pi.add_apply, Finsupp.add_apply]
    rw [Finset.sum_add_distrib, sum_owedX, sum_owedB, if_pos rfl]
    simp [dirs]
theorem launch_r (c : Dev nD) (x : X) :
    tallyOn (rCell c x) (launchCredit (Pipeline.owing O₀) 0 (rCell c x)) = (tallyAt (rCell c x) () N : CellTallies nD τ sig Unit) :=
  launch_at c (some (true, x)) N <| by
    unfold O₀; simp only [Pi.add_apply, Finsupp.add_apply]
    rw [Finset.sum_add_distrib, sum_owedX, sum_owedB, if_neg (by simp), sum_ite_count, show all0.count x = 1 from by revert x; decide, Nat.one_mul, Nat.add_zero]

theorem recvLoc_injective : Function.Injective fun x : X => (SemLoc.dma (recvSem x) : SemLoc sig) := fun x y h => by
  have := csem_injective (show csem (some (true, x)) = csem (some (true, y)) from h)
  simpa using this
theorem creds_of (c : Dev nD) : (Pipeline.launchCred O₀ c : sProp 𝕄) ⊢ creds (F := F) c := by
  unfold Pipeline.launchCred creds
  rw [bigSep_univ_at _ (SemLoc.reg barS), launch_b]
  refine sep_mono_right ?_
  refine (bigSep_subset (t := Finset.univ.map ⟨_, recvLoc_injective⟩) ?_).trans ?_
  · intro s hs
    obtain ⟨x, -, rfl⟩ := Finset.mem_map.mp hs
    exact Finset.mem_erase.mpr ⟨(fun h => by cases h), Finset.mem_univ _⟩
  · rw [bigSep_map]
    exact bigSep_mono fun x _ => Entails.of_eq (congrArg cred (launch_r c x))

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_of (F := F) c) $$ Hcr
  unfold G'
  icases HG with ⟨%K, HK, Hl⟩
  imodintro
  unfold start
  isplitl
  · iexists K
    isplitl [HK Hlev]
    · unfold known records
      icases HK with ⟨H1, H2⟩
      isplitl [H1]; · iexact H1
      isplitl [H2] <;> iassumption
    isplitl [Hl] <;> iassumption
  · iempintro

theorem whole_eq (c : Dev nD) (b : Ref sig .tc) : (iprop(∃ f : Buf (Elt F) ((Memref.whole b).view.loc (c : Thread nD τ)), (Memref.whole b).view.loc (c : Thread nD τ) ↦[(Memref.whole b).view.set]{fullShare} f) : sProp 𝕄)
    = iprop(∃ f : Buf (Elt F) ((c : Thread nD τ).loc b), ((c : Thread nD τ).loc b) ↦{fullShare} f) := by
  rw [whole_pts]
theorem scratch_eq (c : Dev nD) : scratch (F := F) c = Pipeline.scopedRest cfg0.spec c := by
  refine Eq.trans ?_ (scopedRest0_eq c).symm
  exact congrArg₂ BIBase.sep (whole_eq c cc0_scratch0) (congrArg₂ BIBase.sep (whole_eq c cc0_scratch1) (congrArg₂ BIBase.sep (whole_eq c cc0_scratch2)
    (congrArg₂ BIBase.sep (whole_eq c cc0_scratch3) (congrArg₂ BIBase.sep (whole_eq c cc0_scratch4) (whole_eq c cc0_scratch5)))))

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, ← scratch_eq, ownSems0_eq, unscopedSems0_eq]
  unfold Φ₁ closed
  iintro ⟨Hr, HzB, HzS, HzV⟩
  isplitl [HzB]; · iexact HzB
  isplitl [HzS HzV]
  · isplitl [HzS] <;> iassumption
  iexact Hr

theorem stage_not_cell : ∀ (w : Fin 2) (s : Fin (win0 w).nbuf) (i : CI), csem i ≠ .dma ((win0 w).sem s) := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_not_cell w s) _ (by
      rcases t with ⟨_ | _, ht⟩
      · exact Or.inl rfl
      · exact Or.inr rfl)

/-! ## The run -/

/-- The array of window `w` on device `c`, after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with every semaphore at zero, for any float values: every fair run of the program on the 32 devices ends,
    each device's arrays hold what `finalA` says, and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array holds what it held. -/
theorem finalA_x (c : Dev nD) : finalA m ρ c (0 : Fin 2) = m ((c : Thread nD τ).loc main_arg0) :=
  (dats (F := F) m ρ 0 c).arrAt_in (0 : Fin 2) rfl _

end Cert.AllReduce

end
-- ==== Proof.Value.lean ====
/-
The values: what the kernel leaves on every device, and what the reference leaves, are the sum of the 32 blocks.
-/
module

public import proofs.«01_k».proof.Proof.Launch
public import proofs.«01_k».proof.Proof.Gen.ReferenceIdeal
public import Idealize.ShloMosaic.Lib.Pointwise.Reduce
public import Idealize.ShloMosaic.Lib.Pipeline.Value
public import Idealize.ShloMosaic.Lib.Layout
public import Idealize.ShloMosaic.Lib.ValueIdx

@[expose] public section

set_option maxRecDepth 65536

noncomputable section

namespace Cert.AllReduce

open Cert.KernelIdeal Cert.KernelIdeal.Gen
open Idealize.ShloMosaic
open Idealize.ShloMosaic.TcCoe

/-- The index of a matrix among the block's indices: three zeros before it. -/
def flat (y : S256x256.Idx) : S1x1x1x256x256.Idx := ix5 (0 : Fin 1) (0 : Fin 1) (0 : Fin 1) (y 0 : Fin 256) (y 1 : Fin 256)

/-! ## The arrays after the run -/

section Arrays
variable {F : FTy → Type} [FloatOps F]
variable (m : (ℓ : Loc nD τ sig) → Buf (Elt F) ℓ) (ρ : Dev nD → PrngReg)

/-- What is staged of the argument is the whole of the device's argument buffer. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array on device `c`, after the run, is the sum the body leaves there. -/
theorem finalA_o (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans h

/-- The matrix a device contributes is its argument buffer without the unit axes. -/
theorem block_apply (c : Dev nD) (y : S256x256.Idx) :
    block m ρ c y = m ((c : Thread nD τ).loc main_arg0) (flat y) := by
  have h1 : ∀ x : Vec F S1x1x1x256x256 .bf16, k0_pay1 x y = x (flat y) := fun x => by
    unfold k0_pay1
    rw [shapeCast_self, shapeCast_apply _ _ _ (flat y), shapeCast_self]
    rw [Shape.rowMajor_val_five, Shape.rowMajor_val_two]
    show ((((0 * 1 + 0) * 1 + 0) * 256 + (y 0).val) * 256 + (y 1).val) = (y 0).val * 256 + (y 1).val
    omega
  unfold block
  rw [h1, xstg_eq]
end Arrays

/-! ## The kernel's sum -/

/-- The devices whose chunks device `c` has summed after each stage, in the order it adds them: after the exchange, -/
def D1 (c : Dev nD) (q : Fin 4) : List (Dev nD) := [c, sender c (q, 0)]
/-- after the first stage, -/
def D2 (c : Dev nD) (q : Fin 4) : List (Dev nD) := D1 c q ++ D1 (sender c (q, 3)) q ++ D1 (sender c (q, 2)) q ++ D1 (sender c (q, 1)) q
/-- and after the second. -/
def D3 (c : Dev nD) (q : Fin 4) : List (Dev nD) := D2 c q ++ D2 (sender c (q, 6)) q ++ D2 (sender c (q, 5)) q ++ D2 (sender c (q, 4)) q

/-- The last names every device once. -/
theorem D3_perm (c : Dev nD) (q : Fin 4) : (D3 c q).Perm (List.finRange nD) := by revert c q; decide +kernel

section Sums
variable (B : Dev nD → FVec Ideal S256x256 .bf16)

theorem A1_sum (c : Dev nD) (q : Fin 4) (j : S64x256.Idx) : (A1 B c q j : EReal) = ((D1 c q).map fun d => (A0 B d q j : EReal)).sum := by
  unfold A1 D1
  simp only [ValueIdx.addf_apply, List.map_cons, List.map_nil, List.sum_cons, List.sum_nil, add_zero]
theorem A2_sum (c : Dev nD) (q : Fin 4) (j : S64x256.Idx) : (A2 B c q j : EReal) = ((D2 c q).map fun d => (A0 B d q j : EReal)).sum := by
  unfold A2 D2 sum4
  simp only [ValueIdx.addf_apply, A1_sum, List.map_append, List.sum_append]
theorem A3_sum (c : Dev nD) (q : Fin 4) (j : S64x256.Idx) : (A3 B c q j : EReal) = ((D3 c q).map fun d => (A0 B d q j : EReal)).sum := by
  unfold A3 D3 sum4
  simp only [ValueIdx.extf_apply, ValueIdx.addf_apply, A2_sum, List.map_append, List.sum_append]

/-- At the extended reals, what every device leaves at an index is the sum of the 32 matrices there. -/
theorem outOf_sum (c : Dev nD) (y : S256x256.Idx) : (outOf B c y : EReal) = ∑ d : Dev nD, (B d y : EReal) := by
  obtain ⟨j, hj⟩ : ∃ j, (chunkR (chunkOf y)).emb j = y := by
    have h := mem_chunk y
    rw [← Rect.map_emb_univ] at h
    exact (Finset.mem_map.mp h).imp fun _ e => e.2
  rw [← hj, outOf_emb, hj, A3_sum, ((D3_perm c _).map _).sum_eq, ← Fin.sum_univ_def]
  refine Finset.sum_congr rfl fun d _ => ?_
  conv_rhs => rw [← hj]
  rfl
end Sums

/-! ## The reference's sum -/

abbrev S5 : Shape := ⟨5, ![2, 4, 4, 256, 256]⟩
abbrev S5' : Shape := ⟨5, ![1, 1, 1, 256, 256]⟩

theorem tiles : Layout.TilesN S5' S5 (fun b => Layout.cutSize [2, 4, 4] ((![[0], [1], [2], [], []] : Fin 5 → List Nat) b)) := by decide

/-- Where index `y` of device `d`'s matrix is in the whole argument. -/
def at5 (d : Dev nD) (y : S256x256.Idx) : S5.Idx :=
  tiles.idx (Layout.meshBlock [2, 4, 4] ![[0], [1], [2], [], []] d) (flat y)

theorem at5_0 (d : Dev nD) (y : S256x256.Idx) : (at5 d y 0).val = d.val / 16 := by
  show Layout.meshLin [2, 4, 4] d.val [0] * 1 + 0 = d.val / 16
  revert d; decide +kernel
theorem at5_1 (d : Dev nD) (y : S256x256.Idx) : (at5 d y 1).val = d.val / 4 % 4 := by
  show Layout.meshLin [2, 4, 4] d.val [1] * 1 + 0 = d.val / 4 % 4
  revert d; decide +kernel
theorem at5_2 (d : Dev nD) (y : S256x256.Idx) : (at5 d y 2).val = d.val % 4 := by
  show Layout.meshLin [2, 4, 4] d.val [2] * 1 + 0 = d.val % 4
  revert d; decide +kernel
theorem at5_3 (d : Dev nD) (y : S256x256.Idx) : (at5 d y 3).val = (y 0).val := by
  show 0 * 256 + (y 0).val = (y 0).val; omega
theorem at5_4 (d : Dev nD) (y : S256x256.Idx) : (at5 d y 4).val = (y 1).val := by
  show 0 * 256 + (y 1).val = (y 1).val; omega

/-- The places the reference's reduction sums into `y` are the devices' places of `y`, each once. -/
theorem fiber (h : S5.ReducesTo [0, 1, 2] S256x256) (y : S256x256.Idx) (i : S5.Idx) : h.drop i = y ↔ ∃ d, at5 d y = i := by
  constructor
  · rintro rfl
    have h0 : (i 0).val < 2 := (i 0).isLt
    have h1 : (i 1).val < 4 := (i 1).isLt
    have h2 : (i 2).val < 4 := (i 2).isLt
    refine ⟨⟨(i 0).val * 16 + (i 1).val * 4 + (i 2).val, by show _ < 32; omega⟩, funext fun a => Fin.ext ?_⟩
    match a with
    | ⟨0, _⟩ => exact (at5_0 _ _).trans (by show ((i 0).val * 16 + (i 1).val * 4 + (i 2).val) / 16 = (i 0).val; omega)
    | ⟨1, _⟩ => exact (at5_1 _ _).trans (by show ((i 0).val * 16 + (i 1).val * 4 + (i 2).val) / 4 % 4 = (i 1).val; omega)
    | ⟨2, _⟩ => exact (at5_2 _ _).trans (by show ((i 0).val * 16 + (i 1).val * 4 + (i 2).val) % 4 = (i 2).val; omega)
    | ⟨3, _⟩ => exact at5_3 _ _
    | ⟨4, _⟩ => exact at5_4 _ _
  · rintro ⟨d, rfl⟩
    refine funext fun b => Fin.ext ?_
    match b with
    | ⟨0, _⟩ => exact at5_3 d y
    | ⟨1, _⟩ => exact at5_4 d y

theorem at5_inj (y : S256x256.Idx) : Function.Injective fun d => at5 d y := fun d d' e => by
  have e0 := congrArg Fin.val (congrFun e 0)
  have e1 := congrArg Fin.val (congrFun e 1)
  have e2 := congrArg Fin.val (congrFun e 2)
  simp only [at5_0, at5_1, at5_2] at e0 e1 e2
  exact Fin.ext (by omega)

/-- The value the reference leaves, of the whole argument. -/
def refOut (v : FVec Ideal S5 .bf16) : FVec Ideal S256x256 .f32 :=
  extf .f32 (truncf .bf16 (Host.reduceAdd (extf .f32 v Cert.ReferenceIdeal.Gen.bitsLt_bf16_f32) (constant Cert.ReferenceIdeal.S_ .f32 0x00000000#32)
    Cert.ReferenceIdeal.Gen.reducesTo_S2x4x4x256x256_S256x256_d0_1_2 Cert.ReferenceIdeal.Gen.h_S_) Cert.ReferenceIdeal.Gen.bitsLt_bf16_f32) Cert.ReferenceIdeal.Gen.bitsLt_bf16_f32

/-- At an index it is the sum of the whole argument over the devices' places of that index. -/
theorem refOut_sum (v : FVec Ideal S5 .bf16) (y : S256x256.Idx) : (refOut v y : EReal) = ∑ d : Dev nD, (v (at5 d y) : EReal) := by
  unfold refOut
  rw [ValueIdx.extf_apply, ValueIdx.truncf_apply]
  refine (show _ = (Ideal.ofBits .f32 0x00000000#32 : EReal) + ∑ i ∈ Finset.univ.filter (fun i => Cert.ReferenceIdeal.Gen.reducesTo_S2x4x4x256x256_S256x256_d0_1_2.drop i = y), (v i : EReal) from rfl).trans ?_
  rw [Ideal.ofBits_zero_f32, zero_add]
  exact Finset.sum_filter_eq_sum_of_fiber _ (fun d => at5 d y) (at5_inj y) (fiber _ y) _

/-- If every device holds its block of the whole argument, every device's result is the reference's. -/
theorem out_eq_ref (m : (ℓ : Loc nD τ sig) → Buf (Elt Ideal) ℓ) (ρ : Dev nD → PrngReg) (v : FVec Ideal S5 .bf16)
    (hm : ∀ c : Dev nD, m ((c : Thread nD τ).loc main_arg0) = Layout.blockN S5' S5 (Layout.meshBlock [2, 4, 4] ![[0], [1], [2], [], []] c) v)
    (c : Dev nD) : outAt m ρ c = refOut v := by
  funext y
  refine (outOf_sum (block m ρ) c y).trans (Eq.trans (Finset.sum_congr rfl fun d _ => ?_) (refOut_sum v y).symm)
  rw [block_apply, hm d]
  rfl

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem Cert.AllReduce

open Cert.KernelIdeal in
/-- The kernel, over any float values: every run ends, the argument unchanged on every device, every semaphore at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (finalA_x m ρ c), h.2⟩) (run_main m ρ)

/-- The two programs' kernel tables are one: their texts are. -/
theorem table_eq {F : FTy → Type} [FloatOps F] : Cert.Kernel.defs₀ (F := F) = Cert.KernelIdeal.defs₀ (F := F) := by
  refine congrArg Defs.onTc ?_
  funext l x
  match l with
  | 0 => rfl
theorem defs_eq {F : FTy → Type} [FloatOps F] : Cert.KernelIdeal.defs (F := F) = Cert.Kernel.defs (F := F) :=
  congrArg (Pipeline.defs Cert.KernelIdeal.pcfgs) table_eq.symm

/-- The frame of the kernel at the machine's floats. -/
theorem frame_kernel : Cert.quiescent_Kernel := by
  intro m ρ _
  have h := frame_any (F := Bits) m ρ
  rw [defs_eq] at h
  exact h

/-- The frame of the kernel at the extended reals. -/
theorem frame_kernelIdeal : Cert.quiescent_KernelIdeal := fun m ρ _ => frame_any (F := Ideal) m ρ

/-- The same of the reference, which has no semaphore. -/
theorem frame_referenceIdeal : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- If every device holds its block of the reference's argument, every device's result is the reference's result. -/
theorem algebraic : Cert.algebraic_KernelIdeal_ReferenceIdeal := by
  intro m ρ m' ρ' _ hagree
  refine ⟨refOut (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨((h.1 c (1 : Fin 2)).trans (finalA_o m ρ c)).trans (out_eq_ref m ρ _ hagree c), (h.1 c (0 : Fin 2)).trans (finalA_x m ρ c)⟩)
      (run_main (F := Ideal) m ρ)
  · exact (θ_run Cert.ReferenceIdeal.defs _ _).mono (fun _ h => h 0) (Cert.ReferenceIdeal.Value.run (F := Ideal) m' ρ')

/-- Everything claimed. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
